-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v195) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x3x512x512 : Shape := ⟨4, ![8, 3, 512, 512]⟩
abbrev S8x20000x4 : Shape := ⟨3, ![8, 20000, 4]⟩
abbrev S8x32x4 : Shape := ⟨3, ![8, 32, 4]⟩
abbrev S8x32 : Shape := ⟨2, ![8, 32]⟩
abbrev S8x4x20000 : Shape := ⟨3, ![8, 4, 20000]⟩
abbrev S8x4x160x125 : Shape := ⟨4, ![8, 4, 160, 125]⟩
abbrev S8x1x128 : Shape := ⟨3, ![8, 1, 128]⟩
abbrev S8x160x125 : Shape := ⟨3, ![8, 160, 125]⟩
abbrev S1x4x160x125 : Shape := ⟨4, ![1, 4, 160, 125]⟩
abbrev S1x1x128 : Shape := ⟨3, ![1, 1, 128]⟩
abbrev S1x160x125 : Shape := ⟨3, ![1, 160, 125]⟩
abbrev S1x1x160x125 : Shape := ⟨4, ![1, 1, 160, 125]⟩
abbrev S160x125 : Shape := ⟨2, ![160, 125]⟩
abbrev S1x1x1 : Shape := ⟨3, ![1, 1, 1]⟩
abbrev S1 : Shape := ⟨1, ![1]⟩
abbrev S125x125 : Shape := ⟨2, ![125, 125]⟩
abbrev S160x160 : Shape := ⟨2, ![160, 160]⟩
abbrev S160x1 : Shape := ⟨2, ![160, 1]⟩
abbrev S1x1 : Shape := ⟨2, ![1, 1]⟩
abbrev S8x20000 : Shape := ⟨2, ![8, 20000]⟩

abbrev nBuf : Space → Nat
  | .hbm => 12
  | .vmem => 6
  | .smem => 2
  | _ => 0

abbrev bufTy : (tb : Table) → Fin (tcTables nBuf tb) → BufTy
  | .hbm, ⟨0, _⟩ => ⟨S8x3x512x512, .f32⟩
  | .hbm, ⟨1, _⟩ => ⟨S8x20000x4, .f32⟩
  | .hbm, ⟨2, _⟩ => ⟨S8x32x4, .f32⟩
  | .hbm, ⟨3, _⟩ => ⟨S8x32, .i32⟩
  | .hbm, ⟨4, _⟩ => ⟨S8x4x20000, .f32⟩
  | .hbm, ⟨5, _⟩ => ⟨S8x4x160x125, .f32⟩
  | .hbm, ⟨6, _⟩ => ⟨S8x1x128, .f32⟩
  | .hbm, ⟨7, _⟩ => ⟨S8x160x125, .i32⟩
  | .hbm, ⟨8, _⟩ => ⟨S8x4x160x125, .f32⟩
  | .hbm, ⟨9, _⟩ => ⟨S8x20000, .i32⟩
  | .hbm, ⟨10, _⟩ => ⟨S8x4x20000, .f32⟩
  | .hbm, ⟨11, _⟩ => ⟨S8x20000x4, .f32⟩
  | .local _ .vmem, ⟨0, _⟩ => ⟨S1x4x160x125, .f32⟩
  | .local _ .vmem, ⟨1, _⟩ => ⟨S1x4x160x125, .f32⟩
  | .local _ .vmem, ⟨2, _⟩ => ⟨S1x160x125, .i32⟩
  | .local _ .vmem, ⟨3, _⟩ => ⟨S1x160x125, .i32⟩
  | .local _ .vmem, ⟨4, _⟩ => ⟨S1x4x160x125, .f32⟩
  | .local _ .vmem, ⟨5, _⟩ => ⟨S1x4x160x125, .f32⟩
  | .local _ .smem, ⟨0, _⟩ => ⟨S1x1x128, .f32⟩
  | .local _ .smem, ⟨1, _⟩ => ⟨S1x1x128, .f32⟩
  | _, _ => ⟨S8x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg1_0 : Ref sig .tc := ⟨.smem, 0, rfl⟩
abbrev cc0_stg1_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x4x160x125 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x160x125 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x160x125 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S8x3x512x512 : Shape := ⟨4, ![8, 3, 512, 512]⟩
abbrev S8x20000x4 : Shape := ⟨3, ![8, 20000, 4]⟩
abbrev S8x32x4 : Shape := ⟨3, ![8, 32, 4]⟩
abbrev S8x32 : Shape := ⟨2, ![8, 32]⟩
abbrev S8x20000x1 : Shape := ⟨3, ![8, 20000, 1]⟩
abbrev S8x20000 : Shape := ⟨2, ![8, 20000]⟩
abbrev S8x32x1 : Shape := ⟨3, ![8, 32, 1]⟩
abbrev S8x20000x2 : Shape := ⟨3, ![8, 20000, 2]⟩
abbrev S8x20000x1x2 : Shape := ⟨4, ![8, 20000, 1, 2]⟩
abbrev S8x32x2 : Shape := ⟨3, ![8, 32, 2]⟩
abbrev S8x1x32x2 : Shape := ⟨4, ![8, 1, 32, 2]⟩
abbrev S8x20000x32x2 : Shape := ⟨4, ![8, 20000, 32, 2]⟩
abbrev S_ : Shape := ⟨0, ![]⟩
abbrev S8x20000x32x1 : Shape := ⟨4, ![8, 20000, 32, 1]⟩
abbrev S8x20000x32 : Shape := ⟨3, ![8, 20000, 32]⟩
abbrev S8x1x32 : Shape := ⟨3, ![8, 1, 32]⟩
abbrev S20000 : Shape := ⟨1, ![20000]⟩
abbrev S8 : Shape := ⟨1, ![8]⟩
abbrev S8x1 : Shape := ⟨2, ![8, 1]⟩
abbrev S1 : Shape := ⟨1, ![1]⟩
abbrev S1x1x1 : Shape := ⟨3, ![1, 1, 1]⟩

abbrev nBuf : Space → Nat
  | .hbm => 272
  | .vmem => 0
  | .smem => 0
  | _ => 0

abbrev hbmTy0_0 (i : Nat) : BufTy := match i % 128 with
  | 0 => ⟨S8x3x512x512, .f32⟩
  | 1 => ⟨S8x20000x4, .f32⟩
  | 2 => ⟨S8x32x4, .f32⟩
  | 3 => ⟨S8x32, .i32⟩
  | 4 => ⟨S8x20000x1, .f32⟩
  | 5 => ⟨S8x20000, .f32⟩
  | 6 => ⟨S8x20000x1, .f32⟩
  | 7 => ⟨S8x20000, .f32⟩
  | 8 => ⟨S8x20000, .f32⟩
  | 9 => ⟨S8x20000x1, .f32⟩
  | 10 => ⟨S8x20000, .f32⟩
  | 11 => ⟨S8x20000x1, .f32⟩
  | 12 => ⟨S8x20000, .f32⟩
  | 13 => ⟨S8x20000, .f32⟩
  | 14 => ⟨S8x20000, .f32⟩
  | 15 => ⟨S8x32x1, .f32⟩
  | 16 => ⟨S8x32, .f32⟩
  | 17 => ⟨S8x32x1, .f32⟩
  | 18 => ⟨S8x32, .f32⟩
  | 19 => ⟨S8x32, .f32⟩
  | 20 => ⟨S8x32x1, .f32⟩
  | 21 => ⟨S8x32, .f32⟩
  | 22 => ⟨S8x32x1, .f32⟩
  | 23 => ⟨S8x32, .f32⟩
  | 24 => ⟨S8x32, .f32⟩
  | 25 => ⟨S8x32, .f32⟩
  | 26 => ⟨S8x20000x2, .f32⟩
  | 27 => ⟨S8x20000x1x2, .f32⟩
  | 28 => ⟨S8x32x2, .f32⟩
  | 29 => ⟨S8x1x32x2, .f32⟩
  | 30 => ⟨S8x20000x32x2, .f32⟩
  | 31 => ⟨S8x20000x32x2, .f32⟩
  | 32 => ⟨S8x20000x32x2, .f32⟩
  | 33 => ⟨S8x20000x2, .f32⟩
  | 34 => ⟨S8x20000x1x2, .f32⟩
  | 35 => ⟨S8x32x2, .f32⟩
  | 36 => ⟨S8x1x32x2, .f32⟩
  | 37 => ⟨S8x20000x32x2, .f32⟩
  | 38 => ⟨S8x20000x32x2, .f32⟩
  | 39 => ⟨S8x20000x32x2, .f32⟩
  | 40 => ⟨S8x20000x32x2, .f32⟩
  | 41 => ⟨S_, .f32⟩
  | 42 => ⟨S_, .f32⟩
  | 43 => ⟨S8x20000x32x2, .f32⟩
  | 44 => ⟨S8x20000x32x2, .f32⟩
  | 45 => ⟨S8x20000x32x1, .f32⟩
  | 46 => ⟨S8x20000x32, .f32⟩
  | 47 => ⟨S8x20000x32x1, .f32⟩
  | 48 => ⟨S8x20000x32, .f32⟩
  | 49 => ⟨S8x20000x32, .f32⟩
  | 50 => ⟨S8x20000x1, .f32⟩
  | 51 => ⟨S8x1x32, .f32⟩
  | 52 => ⟨S8x20000x32, .f32⟩
  | 53 => ⟨S8x20000x32, .f32⟩
  | 54 => ⟨S8x20000x32, .f32⟩
  | 55 => ⟨S8x20000x32, .f32⟩
  | 56 => ⟨S_, .f32⟩
  | 57 => ⟨S8x20000x32, .f32⟩
  | 58 => ⟨S8x20000x32, .f32⟩
  | 59 => ⟨S8x20000x32, .f32⟩
  | 60 => ⟨S_, .f32⟩
  | 61 => ⟨S8x20000, .f32⟩
  | 62 => ⟨S8x20000x32, .i32⟩
  | 63 => ⟨S_, .f32⟩
  | 64 => ⟨S_, .i32⟩
  | 65 => ⟨S8x20000, .f32⟩
  | 66 => ⟨S8x20000, .i32⟩
  | 67 => ⟨S_, .i32⟩
  | 68 => ⟨S20000, .i32⟩
  | 69 => ⟨S_, .f32⟩
  | 70 => ⟨S8x20000, .f32⟩
  | 71 => ⟨S8x20000, .i1⟩
  | 72 => ⟨S_, .i32⟩
  | 73 => ⟨S_, .i32⟩
  | 74 => ⟨S20000, .i32⟩
  | 75 => ⟨S8x20000, .i32⟩
  | 76 => ⟨S8x20000, .i32⟩
  | 77 => ⟨S8x20000, .i32⟩
  | 78 => ⟨S_, .f32⟩
  | 79 => ⟨S8x20000, .f32⟩
  | 80 => ⟨S8x20000, .i1⟩
  | 81 => ⟨S_, .i32⟩
  | 82 => ⟨S_, .i32⟩
  | 83 => ⟨S20000, .i32⟩
  | 84 => ⟨S8x20000, .i32⟩
  | 85 => ⟨S8x20000, .i32⟩
  | 86 => ⟨S_, .f32⟩
  | 87 => ⟨S8x32, .f32⟩
  | 88 => ⟨S8x1x32, .f32⟩
  | 89 => ⟨S8x20000x32, .f32⟩
  | 90 => ⟨S8x20000x32, .i1⟩
  | 91 => ⟨S8x1x32, .f32⟩
  | 92 => ⟨S_, .f32⟩
  | 93 => ⟨S8x1x32, .f32⟩
  | 94 => ⟨S8x1x32, .i1⟩
  | 95 => ⟨S8x20000x32, .i1⟩
  | 96 => ⟨S8x20000x32, .i1⟩
  | 97 => ⟨S_, .i1⟩
  | 98 => ⟨S8x20000, .i1⟩
  | 99 => ⟨S_, .i32⟩
  | 100 => ⟨S_, .i32⟩
  | 101 => ⟨S20000, .i32⟩
  | 102 => ⟨S8x20000, .i32⟩
  | 103 => ⟨S8x20000, .i32⟩
  | 104 => ⟨S_, .i32⟩
  | 105 => ⟨S8x20000, .i32⟩
  | 106 => ⟨S8x20000, .i1⟩
  | 107 => ⟨S_, .i32⟩
  | 108 => ⟨S8x20000, .i32⟩
  | 109 => ⟨S8x20000, .i1⟩
  | 110 => ⟨S8x20000, .i32⟩
  | 111 => ⟨S_, .i32⟩
  | 112 => ⟨S8, .i32⟩
  | 113 => ⟨S_, .i32⟩
  | 114 => ⟨S8, .i32⟩
  | 115 => ⟨S8, .i32⟩
  | 116 => ⟨S8x20000, .i32⟩
  | 117 => ⟨S_, .i32⟩
  | 118 => ⟨S8, .i32⟩
  | 119 => ⟨S_, .i32⟩
  | 120 => ⟨S8, .i32⟩
  | 121 => ⟨S8, .i32⟩
  | 122 => ⟨S8, .i32⟩
  | 123 => ⟨S8x20000, .i32⟩
  | 124 => ⟨S_, .i32⟩
  | 125 => ⟨S_, .i32⟩
  | 126 => ⟨S8x20000, .i32⟩
  | 127 => ⟨S8x1, .i32⟩
  | _ => ⟨S8x3x512x512, .f32⟩

abbrev hbmTy0_1 (i : Nat) : BufTy := match i % 128 with
  | 0 => ⟨S8x20000, .i32⟩
  | 1 => ⟨S8x20000, .i1⟩
  | 2 => ⟨S8x20000, .i1⟩
  | 3 => ⟨S8x20000, .i32⟩
  | 4 => ⟨S_, .i32⟩
  | 5 => ⟨S_, .i32⟩
  | 6 => ⟨S8x20000, .i32⟩
  | 7 => ⟨S8x1, .i32⟩
  | 8 => ⟨S8x20000, .i32⟩
  | 9 => ⟨S8x20000, .i1⟩
  | 10 => ⟨S8x20000, .i1⟩
  | 11 => ⟨S8x20000, .i1⟩
  | 12 => ⟨S8x20000, .i1⟩
  | 13 => ⟨S8x20000, .i1⟩
  | 14 => ⟨S8x20000, .i1⟩
  | 15 => ⟨S8x20000, .i1⟩
  | 16 => ⟨S_, .i32⟩
  | 17 => ⟨S_, .i32⟩
  | 18 => ⟨S20000, .i32⟩
  | 19 => ⟨S8x20000, .i32⟩
  | 20 => ⟨S8x20000, .i32⟩
  | 21 => ⟨S_, .i32⟩
  | 22 => ⟨S_, .i32⟩
  | 23 => ⟨S20000, .i32⟩
  | 24 => ⟨S8x20000, .i32⟩
  | 25 => ⟨S8x20000, .i32⟩
  | 26 => ⟨S_, .i32⟩
  | 27 => ⟨S8x20000, .i32⟩
  | 28 => ⟨S8x20000, .i1⟩
  | 29 => ⟨S_, .i32⟩
  | 30 => ⟨S8x20000, .i32⟩
  | 31 => ⟨S8x20000, .i32⟩
  | 32 => ⟨S8x20000, .i32⟩
  | 33 => ⟨S8x20000x1, .i32⟩
  | 34 => ⟨S1, .i32⟩
  | 35 => ⟨S_, .i32⟩
  | 36 => ⟨S8x20000x1, .i32⟩
  | 37 => ⟨S8x20000x1, .i1⟩
  | 38 => ⟨S1x1x1, .i32⟩
  | 39 => ⟨S8x20000x1, .i32⟩
  | 40 => ⟨S8x20000x1, .i1⟩
  | 41 => ⟨S8x20000x1, .i1⟩
  | 42 => ⟨S_, .i1⟩
  | 43 => ⟨S8x20000, .i1⟩
  | 44 => ⟨S8x20000x4, .f32⟩
  | 45 => ⟨S8x20000x4, .i1⟩
  | 46 => ⟨S_, .f32⟩
  | 47 => ⟨S8x20000x4, .f32⟩
  | 48 => ⟨S8x20000x4, .f32⟩
  | 49 => ⟨S8x20000x1, .f32⟩
  | 50 => ⟨S8x20000, .f32⟩
  | 51 => ⟨S8x20000x1, .f32⟩
  | 52 => ⟨S8x20000, .f32⟩
  | 53 => ⟨S8x20000, .f32⟩
  | 54 => ⟨S_, .f32⟩
  | 55 => ⟨S8x20000, .f32⟩
  | 56 => ⟨S8x20000, .f32⟩
  | 57 => ⟨S8x20000x1, .f32⟩
  | 58 => ⟨S8x20000, .f32⟩
  | 59 => ⟨S8x20000x1, .f32⟩
  | 60 => ⟨S8x20000, .f32⟩
  | 61 => ⟨S8x20000, .f32⟩
  | 62 => ⟨S_, .f32⟩
  | 63 => ⟨S8x20000, .f32⟩
  | 64 => ⟨S8x20000, .f32⟩
  | 65 => ⟨S8x20000x1, .f32⟩
  | 66 => ⟨S8x20000, .f32⟩
  | 67 => ⟨S8x20000x1, .f32⟩
  | 68 => ⟨S8x20000, .f32⟩
  | 69 => ⟨S8x20000, .f32⟩
  | 70 => ⟨S8x20000x1, .f32⟩
  | 71 => ⟨S8x20000, .f32⟩
  | 72 => ⟨S8x20000x1, .f32⟩
  | 73 => ⟨S8x20000, .f32⟩
  | 74 => ⟨S8x20000, .f32⟩
  | 75 => ⟨S8x20000x1, .f32⟩
  | 76 => ⟨S8x20000x1, .f32⟩
  | 77 => ⟨S8x20000x1, .f32⟩
  | 78 => ⟨S8x20000x1, .f32⟩
  | 79 => ⟨S8x20000x4, .f32⟩
  | 80 => ⟨S8x20000x1, .f32⟩
  | 81 => ⟨S8x20000, .f32⟩
  | 82 => ⟨S8x20000x1, .f32⟩
  | 83 => ⟨S8x20000, .f32⟩
  | 84 => ⟨S8x20000, .f32⟩
  | 85 => ⟨S_, .f32⟩
  | 86 => ⟨S8x20000, .f32⟩
  | 87 => ⟨S8x20000, .f32⟩
  | 88 => ⟨S8x20000x1, .f32⟩
  | 89 => ⟨S8x20000, .f32⟩
  | 90 => ⟨S8x20000x1, .f32⟩
  | 91 => ⟨S8x20000, .f32⟩
  | 92 => ⟨S8x20000, .f32⟩
  | 93 => ⟨S_, .f32⟩
  | 94 => ⟨S8x20000, .f32⟩
  | 95 => ⟨S8x20000, .f32⟩
  | 96 => ⟨S8x20000x1, .f32⟩
  | 97 => ⟨S8x20000, .f32⟩
  | 98 => ⟨S8x20000x1, .f32⟩
  | 99 => ⟨S8x20000, .f32⟩
  | 100 => ⟨S8x20000, .f32⟩
  | 101 => ⟨S8x20000x1, .f32⟩
  | 102 => ⟨S8x20000, .f32⟩
  | 103 => ⟨S8x20000x1, .f32⟩
  | 104 => ⟨S8x20000, .f32⟩
  | 105 => ⟨S8x20000, .f32⟩
  | 106 => ⟨S8x20000x1, .f32⟩
  | 107 => ⟨S8x20000x1, .f32⟩
  | 108 => ⟨S8x20000x1, .f32⟩
  | 109 => ⟨S8x20000x1, .f32⟩
  | 110 => ⟨S8x20000x4, .f32⟩
  | 111 => ⟨S8x20000x1, .f32⟩
  | 112 => ⟨S8x20000, .f32⟩
  | 113 => ⟨S8x20000x1, .f32⟩
  | 114 => ⟨S8x20000, .f32⟩
  | 115 => ⟨S8x20000, .f32⟩
  | 116 => ⟨S8x20000x1, .f32⟩
  | 117 => ⟨S8x20000, .f32⟩
  | 118 => ⟨S8x20000, .f32⟩
  | 119 => ⟨S8x20000x1, .f32⟩
  | 120 => ⟨S8x20000, .f32⟩
  | 121 => ⟨S8x20000x1, .f32⟩
  | 122 => ⟨S8x20000, .f32⟩
  | 123 => ⟨S8x20000, .f32⟩
  | 124 => ⟨S8x20000x1, .f32⟩
  | 125 => ⟨S8x20000, .f32⟩
  | 126 => ⟨S8x20000, .f32⟩
  | 127 => ⟨S8x20000x1, .f32⟩
  | _ => ⟨S8x3x512x512, .f32⟩

abbrev hbmTy0_2 (i : Nat) : BufTy := match i % 128 with
  | 0 => ⟨S8x20000, .f32⟩
  | 1 => ⟨S8x20000x1, .f32⟩
  | 2 => ⟨S8x20000, .f32⟩
  | 3 => ⟨S8x20000, .f32⟩
  | 4 => ⟨S8x20000, .f32⟩
  | 5 => ⟨S8x20000x1, .f32⟩
  | 6 => ⟨S8x20000, .f32⟩
  | 7 => ⟨S8x20000x1, .f32⟩
  | 8 => ⟨S8x20000, .f32⟩
  | 9 => ⟨S8x20000, .f32⟩
  | 10 => ⟨S8x20000, .f32⟩
  | 11 => ⟨S8x20000x1, .f32⟩
  | 12 => ⟨S8x20000x1, .f32⟩
  | 13 => ⟨S8x20000x1, .f32⟩
  | 14 => ⟨S8x20000x1, .f32⟩
  | 15 => ⟨S8x20000x4, .f32⟩
  | _ => ⟨S8x3x512x512, .f32⟩

abbrev hbmTy (i : Nat) : BufTy := match i / 128 with
  | 0 => hbmTy0_0 i
  | 1 => hbmTy0_1 i
  | 2 => hbmTy0_2 i
  | _ => ⟨S8x3x512x512, .f32⟩

abbrev bufTy : (tb : Table) → Fin (tcTables nBuf tb) → BufTy
  | .hbm, ⟨i, _⟩ => hbmTy i
  | _, _ => ⟨S8x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_cst : Ref sig .tc := ⟨.hbm, 41, rfl⟩
abbrev main_call0_v0 : Ref sig .tc := ⟨.hbm, 42, rfl⟩
abbrev main_call0_v1 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_cst_0 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_cst_1 : Ref sig .tc := ⟨.hbm, 60, rfl⟩
abbrev main_v52 : Ref sig .tc := ⟨.hbm, 61, rfl⟩
abbrev main_call1_v0 : Ref sig .tc := ⟨.hbm, 62, rfl⟩
abbrev main_call1_cst : Ref sig .tc := ⟨.hbm, 63, rfl⟩
abbrev main_call1_c : Ref sig .tc := ⟨.hbm, 64, rfl⟩
abbrev main_call1_v1_0 : Ref sig .tc := ⟨.hbm, 65, rfl⟩
abbrev main_v53 : Ref sig .tc := ⟨.hbm, 66, rfl⟩
abbrev main_c : Ref sig .tc := ⟨.hbm, 67, rfl⟩
abbrev main_v54 : Ref sig .tc := ⟨.hbm, 68, rfl⟩
abbrev main_cst_2 : Ref sig .tc := ⟨.hbm, 69, rfl⟩
abbrev main_v55 : Ref sig .tc := ⟨.hbm, 70, rfl⟩
abbrev main_v56 : Ref sig .tc := ⟨.hbm, 71, rfl⟩
abbrev main_c_3 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_call2_v3 : Ref sig .tc := ⟨.hbm, 76, rfl⟩
abbrev main_v57 : Ref sig .tc := ⟨.hbm, 77, rfl⟩
abbrev main_cst_4 : Ref sig .tc := ⟨.hbm, 78, rfl⟩
abbrev main_v58 : Ref sig .tc := ⟨.hbm, 79, rfl⟩
abbrev main_v59 : Ref sig .tc := ⟨.hbm, 80, rfl⟩
abbrev main_c_5 : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_v60 : Ref sig .tc := ⟨.hbm, 85, rfl⟩
abbrev main_cst_6 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_7 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_8 : Ref sig .tc := ⟨.hbm, 97, rfl⟩
abbrev main_v70 : Ref sig .tc := ⟨.hbm, 98, rfl⟩
abbrev main_c_9 : Ref sig .tc := ⟨.hbm, 99, rfl⟩
abbrev main_call4_v0 : Ref sig .tc := ⟨.hbm, 100, rfl⟩
abbrev main_call4_v1 : Ref sig .tc := ⟨.hbm, 101, rfl⟩
abbrev main_call4_v2 : Ref sig .tc := ⟨.hbm, 102, rfl⟩
abbrev main_v71 : Ref sig .tc := ⟨.hbm, 103, rfl⟩
abbrev main_c_10 : Ref sig .tc := ⟨.hbm, 104, rfl⟩
abbrev main_v72 : Ref sig .tc := ⟨.hbm, 105, rfl⟩
abbrev main_v73 : Ref sig .tc := ⟨.hbm, 106, rfl⟩
abbrev main_c_11 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_c_12 : Ref sig .tc := ⟨.hbm, 111, rfl⟩
abbrev main_v77 : Ref sig .tc := ⟨.hbm, 112, rfl⟩
abbrev main_c_13 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_c_14 : Ref sig .tc := ⟨.hbm, 117, rfl⟩
abbrev main_v81 : Ref sig .tc := ⟨.hbm, 118, rfl⟩
abbrev main_c_15 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_call5_call0_c : Ref sig .tc := ⟨.hbm, 124, rfl⟩
abbrev main_call5_call0_v0 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_call6_call0_c : Ref sig .tc := ⟨.hbm, 132, rfl⟩
abbrev main_call6_call0_v0 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_c_16 : Ref sig .tc := ⟨.hbm, 144, rfl⟩
abbrev main_call7_v0 : Ref sig .tc := ⟨.hbm, 145, rfl⟩
abbrev main_call7_v1 : Ref sig .tc := ⟨.hbm, 146, rfl⟩
abbrev main_call7_v2 : Ref sig .tc := ⟨.hbm, 147, rfl⟩
abbrev main_v102 : Ref sig .tc := ⟨.hbm, 148, rfl⟩
abbrev main_c_17 : Ref sig .tc := ⟨.hbm, 149, rfl⟩
abbrev main_call8_v0 : Ref sig .tc := ⟨.hbm, 150, rfl⟩
abbrev main_call8_v1 : Ref sig .tc := ⟨.hbm, 151, rfl⟩
abbrev main_call8_v2 : Ref sig .tc := ⟨.hbm, 152, rfl⟩
abbrev main_v103 : Ref sig .tc := ⟨.hbm, 153, rfl⟩
abbrev main_call9_c : Ref sig .tc := ⟨.hbm, 154, rfl⟩
abbrev main_call9_v0 : Ref sig .tc := ⟨.hbm, 155, rfl⟩
abbrev main_call9_v1 : Ref sig .tc := ⟨.hbm, 156, rfl⟩
abbrev main_call9_c_0 : Ref sig .tc := ⟨.hbm, 157, rfl⟩
abbrev main_call9_v2 : Ref sig .tc := ⟨.hbm, 158, rfl⟩
abbrev main_call9_v3 : Ref sig .tc := ⟨.hbm, 159, rfl⟩
abbrev main_call9_v4 : Ref sig .tc := ⟨.hbm, 160, rfl⟩
abbrev main_call9_v5 : Ref sig .tc := ⟨.hbm, 161, rfl⟩
abbrev main_call9_c_1 : Ref sig .tc := ⟨.hbm, 162, rfl⟩
abbrev main_call9_c_2 : Ref sig .tc := ⟨.hbm, 163, rfl⟩
abbrev main_call9_v6 : Ref sig .tc := ⟨.hbm, 164, rfl⟩
abbrev main_call9_v7 : Ref sig .tc := ⟨.hbm, 165, rfl⟩
abbrev main_call9_v8 : Ref sig .tc := ⟨.hbm, 166, rfl⟩
abbrev main_call9_v9 : Ref sig .tc := ⟨.hbm, 167, rfl⟩
abbrev main_call9_v10 : Ref sig .tc := ⟨.hbm, 168, rfl⟩
abbrev main_call9_v11 : Ref sig .tc := ⟨.hbm, 169, rfl⟩
abbrev main_call9_c_3 : Ref sig .tc := ⟨.hbm, 170, rfl⟩
abbrev main_call9_v12 : Ref sig .tc := ⟨.hbm, 171, rfl⟩
abbrev main_call9_v13 : Ref sig .tc := ⟨.hbm, 172, rfl⟩
abbrev main_call9_v14 : Ref sig .tc := ⟨.hbm, 173, rfl⟩
abbrev main_call9_cst : Ref sig .tc := ⟨.hbm, 174, rfl⟩
abbrev main_call9_v15 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_cst_18 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_cst_19 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_cst_20 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_v142 : Ref sig .tc := ⟨.hbm, 217, rfl⟩
abbrev main_v143 : Ref sig .tc := ⟨.hbm, 218, rfl⟩
abbrev main_v144 : Ref sig .tc := ⟨.hbm, 219, rfl⟩
abbrev main_v145 : Ref sig .tc := ⟨.hbm, 220, rfl⟩
abbrev main_cst_21 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_v161 : Ref sig .tc := ⟨.hbm, 237, rfl⟩
abbrev main_v162 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev main_v166 : Ref sig .tc := ⟨.hbm, 242, rfl⟩
abbrev main_v167 : Ref sig .tc := ⟨.hbm, 243, rfl⟩
abbrev main_v168 : Ref sig .tc := ⟨.hbm, 244, rfl⟩
abbrev main_v169 : Ref sig .tc := ⟨.hbm, 245, rfl⟩
abbrev main_v170 : Ref sig .tc := ⟨.hbm, 246, rfl⟩
abbrev main_v171 : Ref sig .tc := ⟨.hbm, 247, rfl⟩
abbrev main_v172 : Ref sig .tc := ⟨.hbm, 248, rfl⟩
abbrev main_v173 : Ref sig .tc := ⟨.hbm, 249, rfl⟩
abbrev main_v174 : Ref sig .tc := ⟨.hbm, 250, rfl⟩
abbrev main_v175 : Ref sig .tc := ⟨.hbm, 251, rfl⟩
abbrev main_v176 : Ref sig .tc := ⟨.hbm, 252, rfl⟩
abbrev main_v177 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_v183 : Ref sig .tc := ⟨.hbm, 259, rfl⟩
abbrev main_v184 : Ref sig .tc := ⟨.hbm, 260, rfl⟩
abbrev main_v185 : Ref sig .tc := ⟨.hbm, 261, rfl⟩
abbrev main_v186 : Ref sig .tc := ⟨.hbm, 262, rfl⟩
abbrev main_v187 : Ref sig .tc := ⟨.hbm, 263, rfl⟩
abbrev main_v188 : Ref sig .tc := ⟨.hbm, 264, rfl⟩
abbrev main_v189 : Ref sig .tc := ⟨.hbm, 265, rfl⟩
abbrev main_v190 : Ref sig .tc := ⟨.hbm, 266, rfl⟩
abbrev main_v191 : Ref sig .tc := ⟨.hbm, 267, rfl⟩
abbrev main_v192 : Ref sig .tc := ⟨.hbm, 268, rfl⟩
abbrev main_v193 : Ref sig .tc := ⟨.hbm, 269, rfl⟩
abbrev main_v194 : Ref sig .tc := ⟨.hbm, 270, rfl⟩
abbrev main_v195 : Ref sig .tc := ⟨.hbm, 271, rfl⟩

abbrev nD : Nat := 1
abbrev τ : Topo := Topo.v7x

variable {F : FTy → Type} [FloatOps F]
-- ==== Proof.KState.lean ====
/- The kernel's pass over the thirty-two boxes: after each box it holds the anchors forced to be positive, the best overlap so far and
the four coordinates of the box that has it. The pass is unrolled in the kernel's text; here it is one step, taken again and again. -/
module

public import proofs.«01_k».proof.Proof.Gen.KernelIdeal.Frame

@[expose] public section

set_option maxRecDepth 16384

noncomputable section

namespace Cert.KState

open Idealize.ShloMosaic Cert.KernelIdeal Cert.KernelIdeal.Gen Cert.KernelIdeal.Gen.kernelRun0_A.sl

variable {F : FTy → Type} [FloatOps F]

/-- What the pass holds: the forced anchors, the best overlap, and the coordinates of the box that has it. -/
structure St (F : FTy → Type) [FloatOps F] where
  force : IVec S160x125 1
  best : FVec F S160x125 .f32
  t1 : FVec F S160x125 .f32
  t2 : FVec F S160x125 .f32
  t3 : FVec F S160x125 .f32
  t4 : FVec F S160x125 .f32

/-- The intersection over union of the anchors with one box. -/
def iouVec (a1 a2 a3 a4 area : FVec F S160x125 .f32) (g1 g2 g3 g4 : Elt F .f32) : FVec F S160x125 .f32 :=
  let inter : FVec F S160x125 .f32 :=
    mulf (maximumf (subf (minimumf a3 (broadcast S160x125 g3)) (maximumf a1 (broadcast S160x125 g1)))
        (broadcast S160x125 (Scalar.ofBits .f32 0x00000000#32 : F .f32)))
      (maximumf (subf (minimumf a4 (broadcast S160x125 g4)) (maximumf a2 (broadcast S160x125 g2)))
        (broadcast S160x125 (Scalar.ofBits .f32 0x00000000#32 : F .f32)))
  divf inter (maximumf (subf (addf area (broadcast S160x125 (Scalar.mulf (Scalar.subf g3 g1) (Scalar.subf g4 g2) : F .f32))) inter)
    (broadcast S160x125 (Scalar.ofBits .f32 0x3089705F#32 : F .f32)))

/-- The greatest overlap of a box with an anchor of the block. -/
def topOf (v : FVec F S160x125 .f32) : F .f32 :=
  extractAt ![0, 0, 0] (shapeCast S1x1x1 (multiReduction .maximumf [1, 2] S1 (shapeCast S1x160x125 v shapeCasts_S160x125_S1x160x125 : FVec F S1x160x125 .f32)
    0xFF800000#32 reduces_S1x160x125_S1 (.inl rfl) rfl : FVec F S1 .f32) shapeCasts_S1_S1x1x1 : FVec F S1x1x1 .f32) inpos_S1x1x1_p0_0_0

/-- The forced anchors with those of one more box, from the overlaps with that box. -/
def forceStep (f : IVec S160x125 1) (v : FVec F S160x125 .f32) : IVec S160x125 1 :=
  ori f (andi (cmpf .oge v (broadcast S160x125 (topOf v)))
    (broadcast S160x125 (Scalar.cmpf .ogt (topOf v) (Scalar.ofBits .f32 0x00000000#32 : F .f32))))

/-- One box more. -/
def step (s : St F) (v : FVec F S160x125 .f32) (g1 g2 g3 g4 : Elt F .f32) : St F where
  force := forceStep s.force v
  best := select (cmpf .ogt v s.best) v s.best
  t1 := select (cmpf .ogt v s.best) (broadcast S160x125 g1) s.t1
  t2 := select (cmpf .ogt v s.best) (broadcast S160x125 g2) s.t2
  t3 := select (cmpf .ogt v s.best) (broadcast S160x125 g3) s.t3
  t4 := select (cmpf .ogt v s.best) (broadcast S160x125 g4) s.t4

/-- Before any box: nothing forced, the best overlap minus one, the coordinates zero. -/
def start : St F where
  force := constantI S160x125 1 0#1
  best := broadcast S160x125 (Scalar.ofBits .f32 0xBF800000#32 : F .f32)
  t1 := broadcast S160x125 (Scalar.ofBits .f32 0x00000000#32 : F .f32)
  t2 := broadcast S160x125 (Scalar.ofBits .f32 0x00000000#32 : F .f32)
  t3 := broadcast S160x125 (Scalar.ofBits .f32 0x00000000#32 : F .f32)
  t4 := broadcast S160x125 (Scalar.ofBits .f32 0x00000000#32 : F .f32)

variable (c : Dev nD) (arg1 : Memref sig .tc .vmem S1x4x160x125 .f32) (harg1 : arg1.IsWhole)
  (arg2 : Memref sig .tc .smem S1x1x128 .f32) (harg2 : arg2.IsWhole)
  (x0 : Vec F S1x4x160x125 .f32) (x1 : Vec F S1x1x128 .f32)

theorem inb_word (k : ℕ) (hk : k < 128) : ∀ a : Fin S1x1x128.rank, (![0, 0, k] : Fin 3 → ℕ) a + S1x1x1.size a ≤ S1x1x128.size a := by
  intro a
  match a with
  | 0 => exact le_rfl
  | 1 => exact le_rfl
  | 2 => exact hk

/-- A word of the boxes' row as the kernel loads it. -/
def word (k : ℕ) (hk : k < 128) : Elt F .f32 :=
  View.readAt (Elt F) arg2.view (Rect.unit (s := S1x1x128) ![0, 0, k] S1x1x1.size (inb_word k hk)).toLoadRect (harg2.unread x1)
    (Shape.Idx.first (show 0 < S1x1x1.numel by decide))

/-- The overlaps with box `g` as the kernel computes them. -/
def iouAt (g : ℕ) (hg : g < 32) : FVec F S160x125 .f32 :=
  iouVec (r_4 c arg1 harg1 x0) (r_5 c arg1 harg1 x0) (r_6 c arg1 harg1 x0) (r_7 c arg1 harg1 x0) (r_8 c arg1 harg1 x0)
    (word arg2 harg2 x1 (4 * g) (by omega)) (word arg2 harg2 x1 (4 * g + 1) (by omega))
    (word arg2 harg2 x1 (4 * g + 2) (by omega)) (word arg2 harg2 x1 (4 * g + 3) (by omega))

/-- One box more, the box by its number. -/
def stepAt (s : St F) (g : ℕ) (hg : g < 32) : St F :=
  step s (iouAt c arg1 harg1 arg2 harg2 x0 x1 g hg)
    (word arg2 harg2 x1 (4 * g) (by omega)) (word arg2 harg2 x1 (4 * g + 1) (by omega))
    (word arg2 harg2 x1 (4 * g + 2) (by omega)) (word arg2 harg2 x1 (4 * g + 3) (by omega))

/-- A value of the kernel as a function of the block's memory and contents. -/
abbrev Val (F : FTy → Type) [FloatOps F] (T : Type) : Type :=
  Dev nD → (a : Memref sig .tc .vmem S1x4x160x125 .f32) → a.IsWhole →
    (b : Memref sig .tc .smem S1x1x128 .f32) → b.IsWhole → Vec F S1x4x160x125 .f32 → Vec F S1x1x128 .f32 → T

/-- What the pass holds after boxes 0 to 30, by the names of the kernel's values. -/
def named : Fin 31 → St F :=
  let mk (f : Val F (IVec S160x125 1)) (b t1 t2 t3 t4 : Val F (FVec F S160x125 .f32)) : St F :=
    ⟨f c arg1 harg1 arg2 harg2 x0 x1, b c arg1 harg1 arg2 harg2 x0 x1, t1 c arg1 harg1 arg2 harg2 x0 x1,
      t2 c arg1 harg1 arg2 harg2 x0 x1, t3 c arg1 harg1 arg2 harg2 x0 x1, t4 c arg1 harg1 arg2 harg2 x0 x1⟩
  ![mk r_14 r_15 r_16 r_17 r_18 r_19,
    mk r_23 r_24 r_25 r_26 r_27 r_28,
    mk r_32 r_33 r_34 r_35 r_36 r_37,
    mk r_41 r_42 r_43 r_44 r_45 r_46,
    mk r_51 r_53 r_54 r_60 r_61 r_62,
    mk r_64 r_69 r_70 r_71 r_72 r_73,
    mk r_81 r_82 r_83 r_84 r_85 r_86,
    mk r_93 r_94 r_95 r_96 r_97 r_98,
    mk r_105 r_106 r_107 r_108 r_109 r_110,
    mk r_118 r_119 r_120 r_121 r_122 r_123,
    mk r_130 r_131 r_132 r_133 r_134 r_135,
    mk r_143 r_144 r_145 r_146 r_147 r_148,
    mk r_154 r_155 r_156 r_157 r_158 r_159,
    mk r_163 r_164 r_165 r_166 r_167 r_168,
    mk r_172 r_173 r_174 r_175 r_176 r_177,
    mk r_181 r_182 r_183 r_184 r_185 r_186,
    mk r_191 r_193 r_194 r_200 r_201 r_202,
    mk r_204 r_209 r_210 r_211 r_212 r_213,
    mk r_221 r_222 r_223 r_224 r_225 r_226,
    mk r_233 r_234 r_235 r_236 r_237 r_238,
    mk r_245 r_246 r_247 r_248 r_249 r_250,
    mk r_258 r_259 r_260 r_261 r_262 r_263,
    mk r_270 r_271 r_272 r_273 r_274 r_275,
    mk r_283 r_284 r_285 r_286 r_287 r_288,
    mk r_294 r_295 r_296 r_297 r_298 r_299,
    mk r_303 r_304 r_305 r_306 r_307 r_308,
    mk r_312 r_313 r_314 r_315 r_316 r_317,
    mk r_321 r_322 r_323 r_324 r_325 r_326,
    mk r_331 r_333 r_334 r_340 r_341 r_342,
    mk r_344 r_349 r_350 r_351 r_352 r_353,
    mk r_361 r_362 r_363 r_364 r_365 r_366]

/-- After box 0. -/
theorem named_zero : named c arg1 harg1 arg2 harg2 x0 x1 0 = stepAt c arg1 harg1 arg2 harg2 x0 x1 start 0 (by decide) := rfl

/-- After each further box. -/
theorem named_succ (g : Fin 30) : named c arg1 harg1 arg2 harg2 x0 x1 g.succ
    = stepAt c arg1 harg1 arg2 harg2 x0 x1 (named c arg1 harg1 arg2 harg2 x0 x1 g.castSucc) (g + 1) (by omega) := by
  fin_cases g <;> rfl

end Cert.KState

end
-- ==== Proof.Spec.lean ====
/- The matching of anchors to boxes in plain mathematics over the extended reals, for one image: overlaps, best boxes, labels, the
drop beyond the sample's size, and offsets. Both programs are read against these functions. -/
module

public import Idealize.ShloMosaic.PureOps.Ideal.Laws
public import Idealize.ShloMosaic.Lib.IdealHost

@[expose] public section

noncomputable section

namespace Cert.Spec

open Idealize.ShloMosaic
open Classical

/-- The area of the intersection of two boxes. -/
def inter (a b : Fin 4 → EReal) : EReal :=
  max (min (a 2) (b 2) - max (a 0) (b 0)) 0 * max (min (a 3) (b 3) - max (a 1) (b 1)) 0

/-- The area of a box. -/
def area (a : Fin 4 → EReal) : EReal := (a 2 - a 0) * (a 3 - a 1)

/-- The intersection over union of two boxes. -/
def iou (a b : Fin 4 → EReal) : EReal :=
  Ideal.div (inter a b) (max (area a + area b - inter a b) (Ideal.ofBits .f32 0x3089705F#32))

/-- The least union that is divided by is positive. -/
theorem eps_pos : 0 < Ideal.ofBits .f32 0x3089705F#32 := by
  simp [Ideal.ofBits, Ideal.ieee, -EReal.coe_mul]

/-- The best overlap that the kernel starts from is negative. -/
theorem start_neg : Ideal.ofBits .f32 0xBF800000#32 < 0 := by
  have h : Ideal.ofBits .f32 0xBF800000#32 = ((-(1 : ℝ) : ℝ) : EReal) := by
    simp [Ideal.ofBits, Ideal.ieee, -EReal.coe_mul, -EReal.coe_neg]; norm_num
  rw [h, ← EReal.coe_zero]
  exact EReal.coe_lt_coe_iff.mpr (by norm_num)

/-- The greatest number of positives, as the kernel has it. -/
theorem ofBits_128 : Ideal.ofBits .f32 0x43000000#32 = ((128 : ℕ) : EReal) := by
  rw [show ((128 : ℕ) : EReal) = ((128 : ℝ) : EReal) by norm_cast]
  simp [Ideal.ofBits, Ideal.ieee, -EReal.coe_mul]; norm_num

/-- The size of the sample, as the kernel has it. -/
theorem ofBits_256 : Ideal.ofBits .f32 0x43800000#32 = ((256 : ℕ) : EReal) := by
  rw [show ((256 : ℕ) : EReal) = ((256 : ℝ) : EReal) by norm_cast]
  simp [Ideal.ofBits, Ideal.ieee, -EReal.coe_mul]; norm_num

theorem inter_nonneg (a b : Fin 4 → EReal) : 0 ≤ inter a b :=
  mul_nonneg (le_max_right _ _) (le_max_right _ _)

/-- An overlap is not negative. -/
theorem iou_nonneg (a b : Fin 4 → EReal) : 0 ≤ iou a b := by
  have h : 0 < max (area a + area b - inter a b) (Ideal.ofBits .f32 0x3089705F#32) := lt_max_of_lt_right eps_pos
  unfold iou Ideal.div
  rw [if_neg h.ne']
  exact mul_nonneg (inter_nonneg a b) (EReal.inv_nonneg_of_nonneg h.le)

/-! ## The best box -/

/-- Box `i` has the greatest overlap, and no box before it has the same. -/
def IsFirst (f : Fin 32 → EReal) (i : Fin 32) : Prop := (∀ j, f j ≤ f i) ∧ ∀ j, j < i → f j < f i

theorem IsFirst.unique {f : Fin 32 → EReal} {i k : Fin 32} (hi : IsFirst f i) (hk : IsFirst f k) : i = k := by
  rcases lt_trichotomy i k with h | h | h
  · exact absurd (hk.2 i h) (not_lt.mpr (hi.1 k))
  · exact h
  · exact absurd (hi.2 k h) (not_lt.mpr (hk.1 i))

/-- The first box of the greatest overlap. -/
def first (f : Fin 32 → EReal) : Fin 32 := if h : ∃ i, IsFirst f i then h.choose else 0

theorem first_eq {f : Fin 32 → EReal} {i : Fin 32} (h : IsFirst f i) : first f = i := by
  have e : ∃ i, IsFirst f i := ⟨i, h⟩
  rw [first, dif_pos e]
  exact e.choose_spec.unique h

/-- One box more: the box kept so far stays unless the new one overlaps more. -/
theorem first_step (f : Fin 32 → EReal) (g : ℕ) (hg : g < 32) {i : Fin 32} (hi : i.val < g)
    (h1 : ∀ j : Fin 32, j.val < g → f j ≤ f i) (h2 : ∀ j, j < i → f j < f i) :
    let k : Fin 32 := if f i < f ⟨g, hg⟩ then ⟨g, hg⟩ else i
    k.val < g + 1 ∧ (∀ j : Fin 32, j.val < g + 1 → f j ≤ f k) ∧ ∀ j, j < k → f j < f k := by
  intro k
  by_cases h : f i < f ⟨g, hg⟩
  · have hk : k = ⟨g, hg⟩ := if_pos h
    rw [hk]
    refine ⟨Nat.lt_succ_self g, fun j hj => ?_, fun j hj => ?_⟩
    · rcases Nat.lt_succ_iff_lt_or_eq.mp hj with hj | hj
      · exact (h1 j hj).trans h.le
      · exact (congrArg f (Fin.ext hj : j = ⟨g, hg⟩)).le
    · exact (h1 j hj).trans_lt h
  · have hk : k = i := if_neg h
    rw [hk]
    refine ⟨hi.trans (Nat.lt_succ_self g), fun j hj => ?_, h2⟩
    rcases Nat.lt_succ_iff_lt_or_eq.mp hj with hj | hj
    · exact h1 j hj
    · rw [(Fin.ext hj : j = ⟨g, hg⟩)]
      exact not_lt.mp h

/-! ## The labels -/

/-- The greatest overlap of a box with an anchor. -/
def top (u : Fin 20000 → Fin 32 → EReal) (g : Fin 32) : EReal := Finset.univ.sup fun n => u n g

/-- The anchor is the best one of a box that overlaps some anchor. -/
def Forced (u : Fin 20000 → Fin 32 → EReal) (n : Fin 20000) : Prop := ∃ g, top u g ≤ u n g ∧ 0 < top u g

/-- The label from the best overlap and whether the anchor is forced. -/
def labelOf (forced : Prop) (best : EReal) : BitVec 32 :=
  if forced then 1#32 else if Ideal.ofBits .f32 0x3F333333#32 ≤ best then 1#32
  else if best < Ideal.ofBits .f32 0x3E99999A#32 then 0#32 else 4294967295#32

/-- The label of an anchor before the drop. -/
def label (u : Fin 20000 → Fin 32 → EReal) (n : Fin 20000) : BitVec 32 := labelOf (Forced u n) (u n (first (u n)))

/-- The overlaps of an image's anchors and boxes. -/
def overlaps (a : Fin 20000 → Fin 4 → EReal) (b : Fin 32 → Fin 4 → EReal) (n : Fin 20000) (g : Fin 32) : EReal := iou (a n) (b g)

/-! ## The drop -/

/-- How many of the anchors before `n` have the property. -/
def cnt (p : Fin 20000 → Prop) (n : ℕ) : ℕ := ∑ m : Fin 20000, if m.val < n ∧ p m then 1 else 0

theorem cnt_le (p : Fin 20000 → Prop) (n : ℕ) : cnt p n ≤ 20000 := by
  refine (Finset.sum_le_sum fun m _ => ?_ : _ ≤ ∑ _m : Fin 20000, 1).trans (by simp)
  split <;> omega

/-- How many positives stay, of `t`. -/
def keepPos (t : ℕ) : ℕ := min t 128

/-- How many negatives stay, of `t`, beside `k` positives. -/
def keepNeg (t k : ℕ) : ℕ := min t (256 - k)

/-- The anchors dropped, from the labels. -/
def Dropped (l : Fin 20000 → BitVec 32) (n : Fin 20000) : Prop :=
  (l n = 1#32 ∧ ¬ cnt (fun m => l m = 1#32) (n + 1) ≤ keepPos (cnt (fun m => l m = 1#32) 20000))
  ∨ (l n = 0#32 ∧ ¬ cnt (fun m => l m = 0#32) (n + 1)
      ≤ keepNeg (cnt (fun m => l m = 0#32) 20000) (keepPos (cnt (fun m => l m = 1#32) 20000)))

/-- The label of an anchor. -/
def conf (u : Fin 20000 → Fin 32 → EReal) (n : Fin 20000) : BitVec 32 :=
  if Dropped (label u) n then 4294967295#32 else label u n

/-- The box matched to an anchor. -/
def box (u : Fin 20000 → Fin 32 → EReal) (n : Fin 20000) : Fin 32 := if Dropped (label u) n then 0 else first (u n)

/-! ## The offsets -/

/-- One of the four offsets of a box from an anchor: the centre's two over the extents, the extents' two as logarithms. -/
def off (a b : Fin 4 → EReal) : Fin 4 → EReal :=
  ![Ideal.div ((b 0 + b 2) * Ideal.ofBits .f32 0x3F000000#32 - (a 0 + a 2) * Ideal.ofBits .f32 0x3F000000#32) (a 2 - a 0),
    Ideal.div ((b 1 + b 3) * Ideal.ofBits .f32 0x3F000000#32 - (a 1 + a 3) * Ideal.ofBits .f32 0x3F000000#32) (a 3 - a 1),
    Ideal.log (Ideal.div (b 2 - b 0) (a 2 - a 0)),
    Ideal.log (Ideal.div (b 3 - b 1) (a 3 - a 1))]

/-- Where coordinate `k` of box `g` stands in the boxes' row. -/
def boxAt (g : Fin 32) (k : Fin 4) : Fin 128 := ⟨4 * g.val + k.val, by omega⟩

/-! ## Counting by rows -/

/-- The anchor in row `r`, column `q` of the anchors laid out by rows of 125. -/
def at' (r : Fin 160) (q : Fin 125) : Fin 20000 := ⟨125 * r.val + q.val, by omega⟩

/-- A sum over the anchors is the sum over rows of sums over columns. -/
theorem sum_rows (f : Fin 20000 → ℕ) : ∑ m, f m = ∑ r : Fin 160, ∑ q : Fin 125, f (at' r q) := by
  rw [← Fintype.sum_prod_type']
  refine (Fintype.sum_equiv (finProdFinEquiv (m := 160) (n := 125)) _ _ fun x => ?_).symm
  exact congrArg f (Fin.ext (by simp [at', finProdFinEquiv]; omega))

/-- How many of the first `q + 1` anchors of row `r` have the property. -/
def rowCnt (p : Fin 20000 → Prop) (r : Fin 160) (q : Fin 125) : ℕ := ∑ k : Fin 125, if p (at' r k) ∧ k ≤ q then 1 else 0

/-- The count up to an anchor: its row up to it, and the whole rows before. -/
theorem cnt_rows (p : Fin 20000 → Prop) (r : Fin 160) (q : Fin 125) :
    cnt p ((at' r q).val + 1) = rowCnt p r q + ∑ s : Fin 160, (if s < r then rowCnt p s 124 else 0) := by
  have e : rowCnt p r q = ∑ s : Fin 160, if s = r then rowCnt p s q else 0 := by simp
  rw [cnt, sum_rows, e, ← Finset.sum_add_distrib]
  refine Finset.sum_congr rfl fun s _ => ?_
  rcases lt_trichotomy s r with h | h | h
  · rw [if_neg h.ne, if_pos h, zero_add, rowCnt]
    refine Finset.sum_congr rfl fun k _ => if_congr ?_ rfl rfl
    have := k.isLt; have := q.isLt
    simp only [at', Fin.lt_def, Fin.le_def] at h ⊢
    constructor
    · rintro ⟨_, hp⟩; exact ⟨hp, by show k.val ≤ 124; omega⟩
    · rintro ⟨hp, _⟩; exact ⟨by omega, hp⟩
  · subst h
    rw [if_pos rfl, if_neg (lt_irrefl _), add_zero, rowCnt]
    refine Finset.sum_congr rfl fun k _ => if_congr ?_ rfl rfl
    simp only [at', Fin.le_def]
    constructor
    · rintro ⟨_, hp⟩; exact ⟨hp, by omega⟩
    · rintro ⟨hp, _⟩; exact ⟨by omega, hp⟩
  · rw [if_neg h.ne', if_neg h.not_gt, add_zero]
    refine Finset.sum_eq_zero fun k _ => if_neg ?_
    simp only [at', Fin.lt_def] at h ⊢
    have := q.isLt
    omega

/-- All anchors are those up to the last. -/
theorem cnt_all (p : Fin 20000 → Prop) : cnt p 20000 = cnt p ((at' 159 124).val + 1) := rfl

end Cert.Spec

end
-- ==== Proof.KRead.lean ====
/- The kernel's pass over the boxes read at one anchor of the block: after all boxes the best overlap is that of the first box of the
greatest overlap, the coordinates are that box's, and an anchor is forced where it is the best one of some box. -/
module

public import proofs.«01_k».proof.Proof.KState
public import proofs.«01_k».proof.Proof.Spec
public import Idealize.ShloMosaic.Lib.Pointwise

@[expose] public section

set_option maxRecDepth 16384

noncomputable section

namespace Cert.KState

open Idealize.ShloMosaic Cert.KernelIdeal Cert.KernelIdeal.Gen Cert.KernelIdeal.Gen.kernelRun0_A.sl
open Cert.Spec
open Classical

variable (c : Dev nD) (arg1 : Memref sig .tc .vmem S1x4x160x125 .f32) (harg1 : arg1.IsWhole)
  (arg2 : Memref sig .tc .smem S1x1x128 .f32) (harg2 : arg2.IsWhole)
  (x0 : Vec Ideal S1x4x160x125 .f32) (x1 : Vec Ideal S1x1x128 .f32)

/-! ## What is loaded -/

theorem word_eq (k : ℕ) (hk : k < 128) : word arg2 harg2 x1 k hk = x1 (ix3 0 0 ⟨k, hk⟩) := by
  unfold word
  rw [View.readAt_eq_ld, harg2.read_unread]
  pointwise

theorem r4_eq (r : Fin 160) (q : Fin 125) : r_4 c arg1 harg1 x0 (ix2 r q) = x0 (ix4 0 0 r q) := by
  unfold r_4 k0_pay3
  rw [View.readAt_eq_ld, harg1.read_unread]
  pointwise

theorem r5_eq (r : Fin 160) (q : Fin 125) : r_5 c arg1 harg1 x0 (ix2 r q) = x0 (ix4 0 1 r q) := by
  unfold r_5 k0_pay4
  rw [View.readAt_eq_ld, harg1.read_unread]
  pointwise

theorem r6_eq (r : Fin 160) (q : Fin 125) : r_6 c arg1 harg1 x0 (ix2 r q) = x0 (ix4 0 2 r q) := by
  unfold r_6 k0_pay5
  rw [View.readAt_eq_ld, harg1.read_unread]
  pointwise

theorem r7_eq (r : Fin 160) (q : Fin 125) : r_7 c arg1 harg1 x0 (ix2 r q) = x0 (ix4 0 3 r q) := by
  unfold r_7 k0_pay6
  rw [View.readAt_eq_ld, harg1.read_unread]
  pointwise

theorem r8_eq (r : Fin 160) (q : Fin 125) : r_8 c arg1 harg1 x0 (ix2 r q)
    = (x0 (ix4 0 2 r q) - x0 (ix4 0 0 r q)) * (x0 (ix4 0 3 r q) - x0 (ix4 0 1 r q)) := by
  rw [← r4_eq c arg1 harg1 x0, ← r5_eq c arg1 harg1 x0, ← r6_eq c arg1 harg1 x0, ← r7_eq c arg1 harg1 x0]
  rfl

/-! ## One step at an anchor -/

theorem iouVec_eq (a1 a2 a3 a4 ar : FVec Ideal S160x125 .f32) (g1 g2 g3 g4 : EReal) (r : Fin 160) (q : Fin 125)
    (h : ar (ix2 r q) = area ![a1 (ix2 r q), a2 (ix2 r q), a3 (ix2 r q), a4 (ix2 r q)]) :
    iouVec a1 a2 a3 a4 ar g1 g2 g3 g4 (ix2 r q)
      = iou ![a1 (ix2 r q), a2 (ix2 r q), a3 (ix2 r q), a4 (ix2 r q)] ![g1, g2, g3, g4] := by
  unfold iouVec
  pointwise
  rw [h]
  rfl

theorem negInf : Ideal.ofBits .f32 0xFF800000#32 = ⊥ := by
  simp [Ideal.ofBits, Ideal.ieee]

theorem topOf_eq (v : FVec Ideal S160x125 .f32) (f : Fin 20000 → EReal) (hv : ∀ r q, v (ix2 r q) = f (at' r q)) :
    topOf v = Finset.univ.sup f := by
  unfold topOf
  pointwise
  rw [negInf]
  have e : Finset.fold max (⊥ : EReal) (fun x : Fin 160 × Fin 125 => v (ix2 x.1 x.2)) Finset.univ
      = Finset.univ.sup fun x : Fin 160 × Fin 125 => v (ix2 x.1 x.2) := rfl
  refine Eq.trans e (le_antisymm (Finset.sup_le fun x _ => ?_) (Finset.sup_le fun n _ => ?_))
  · rw [hv]
    exact Finset.le_sup (f := f) (Finset.mem_univ _)
  · have hn : at' ⟨n.val / 125, by omega⟩ ⟨n.val % 125, by omega⟩ = n := Fin.ext (by simp only [at']; omega)
    have := Finset.le_sup (f := fun x : Fin 160 × Fin 125 => v (ix2 x.1 x.2))
      (Finset.mem_univ ((⟨n.val / 125, by omega⟩, ⟨n.val % 125, by omega⟩) : Fin 160 × Fin 125))
    rw [← hn, ← hv]
    exact this

theorem bit_or (x y : BitVec 1) : IntOp.ori x y = 1#1 ↔ x = 1#1 ∨ y = 1#1 := by
  revert x y; decide

theorem bit_and (x y : BitVec 1) : IntOp.andi x y = 1#1 ↔ x = 1#1 ∧ y = 1#1 := by
  revert x y; decide

theorem bit_not (x : BitVec 1) : IntOp.xori x 1#1 = 1#1 ↔ ¬ x = 1#1 := by
  revert x; decide

theorem bit_of (p : Prop) [Decidable p] : BitVec.ofBool (decide p) = 1#1 ↔ p := by
  by_cases h : p <;> simp [h]

theorem forceStep_eq (f : IVec S160x125 1) (v : FVec Ideal S160x125 .f32) (r : Fin 160) (q : Fin 125) :
    forceStep f v (ix2 r q) = 1#1 ↔ f (ix2 r q) = 1#1 ∨ (topOf v ≤ v (ix2 r q) ∧ 0 < topOf v) := by
  generalize ht : topOf v = t
  unfold forceStep
  rw [ht]
  pointwise
  rw [bit_or, bit_and, bit_of, bit_of]

/-! ## The pass -/

/-- What the pass holds after `g` boxes. -/
def run : ℕ → St Ideal
  | 0 => start
  | g + 1 => if hg : g < 32 then stepAt c arg1 harg1 arg2 harg2 x0 x1 (run g) g hg else run g

theorem run_succ (g : ℕ) (hg : g < 32) : run c arg1 harg1 arg2 harg2 x0 x1 (g + 1)
    = stepAt c arg1 harg1 arg2 harg2 x0 x1 (run c arg1 harg1 arg2 harg2 x0 x1 g) g hg := dif_pos hg

/-- The kernel's named values are the pass. -/
theorem named_eq (g : ℕ) (hg : g < 31) : named c arg1 harg1 arg2 harg2 x0 x1 ⟨g, hg⟩ = run c arg1 harg1 arg2 harg2 x0 x1 (g + 1) := by
  induction g with
  | zero =>
    rw [run_succ _ _ _ _ _ _ _ 0 (by decide)]
    exact named_zero c arg1 harg1 arg2 harg2 x0 x1
  | succ g ih =>
    rw [run_succ _ _ _ _ _ _ _ (g + 1) (by omega), ← ih (by omega)]
    exact named_succ c arg1 harg1 arg2 harg2 x0 x1 ⟨g, by omega⟩

variable (a : Fin 20000 → Fin 4 → EReal) (b : Fin 32 → Fin 4 → EReal)

variable (hx0 : ∀ k r q, x0 (ix4 0 k r q) = a (at' r q) k)
  (hx1 : ∀ (g : Fin 32) (k : Fin 4), x1 (ix3 0 0 (boxAt g k)) = b g k)

include hx0 hx1

theorem iouAt_eq (g : ℕ) (hg : g < 32) (r : Fin 160) (q : Fin 125) :
    iouAt c arg1 harg1 arg2 harg2 x0 x1 g hg (ix2 r q) = overlaps a b (at' r q) ⟨g, hg⟩ := by
  unfold iouAt
  rw [iouVec_eq]
  · rw [r4_eq, r5_eq, r6_eq, r7_eq, word_eq, word_eq, word_eq, word_eq, hx0, hx0, hx0, hx0]
    have e0 := hx1 ⟨g, hg⟩ 0
    have e1 := hx1 ⟨g, hg⟩ 1
    have e2 := hx1 ⟨g, hg⟩ 2
    have e3 := hx1 ⟨g, hg⟩ 3
    have ea : ![a (at' r q) 0, a (at' r q) 1, a (at' r q) 2, a (at' r q) 3] = a (at' r q) := by
      funext k; fin_cases k <;> rfl
    have eb : ![x1 (ix3 0 0 ⟨4 * g, by omega⟩), x1 (ix3 0 0 ⟨4 * g + 1, by omega⟩), x1 (ix3 0 0 ⟨4 * g + 2, by omega⟩),
        x1 (ix3 0 0 ⟨4 * g + 3, by omega⟩)] = b ⟨g, hg⟩ := by
      funext k; fin_cases k
      · exact e0
      · exact e1
      · exact e2
      · exact e3
    rw [ea, eb]
    rfl
  · rw [r8_eq, r4_eq, r5_eq, r6_eq, r7_eq]
    rfl

/-- After at least one box: the first box so far of the greatest overlap, its overlap and its coordinates. -/
theorem run_best (r : Fin 160) (q : Fin 125) (g : ℕ) (hg : g < 32) :
    ∃ i : Fin 32, i.val < g + 1 ∧ (∀ j : Fin 32, j.val < g + 1 → overlaps a b (at' r q) j ≤ overlaps a b (at' r q) i)
      ∧ (∀ j, j < i → overlaps a b (at' r q) j < overlaps a b (at' r q) i)
      ∧ (run c arg1 harg1 arg2 harg2 x0 x1 (g + 1)).best (ix2 r q) = overlaps a b (at' r q) i
      ∧ (run c arg1 harg1 arg2 harg2 x0 x1 (g + 1)).t1 (ix2 r q) = b i 0
      ∧ (run c arg1 harg1 arg2 harg2 x0 x1 (g + 1)).t2 (ix2 r q) = b i 1
      ∧ (run c arg1 harg1 arg2 harg2 x0 x1 (g + 1)).t3 (ix2 r q) = b i 2
      ∧ (run c arg1 harg1 arg2 harg2 x0 x1 (g + 1)).t4 (ix2 r q) = b i 3 := by
  have hi := iouAt_eq c arg1 harg1 arg2 harg2 x0 x1 a b hx0 hx1 g hg r q
  have e0 : word arg2 harg2 x1 (4 * g) (by omega) = b ⟨g, hg⟩ 0 := by rw [word_eq]; exact hx1 ⟨g, hg⟩ 0
  have e1 : word arg2 harg2 x1 (4 * g + 1) (by omega) = b ⟨g, hg⟩ 1 := by rw [word_eq]; exact hx1 ⟨g, hg⟩ 1
  have e2 : word arg2 harg2 x1 (4 * g + 2) (by omega) = b ⟨g, hg⟩ 2 := by rw [word_eq]; exact hx1 ⟨g, hg⟩ 2
  have e3 : word arg2 harg2 x1 (4 * g + 3) (by omega) = b ⟨g, hg⟩ 3 := by rw [word_eq]; exact hx1 ⟨g, hg⟩ 3
  rw [run_succ _ _ _ _ _ _ _ g hg]
  unfold stepAt
  rw [e0, e1, e2, e3]
  generalize iouAt c arg1 harg1 arg2 harg2 x0 x1 g hg = v at hi
  induction g generalizing v with
  | zero =>
    have hp : Ideal.ofBits .f32 0xBF800000#32 < overlaps a b (at' r q) ⟨0, hg⟩ := start_neg.trans_le (iou_nonneg _ _)
    refine ⟨⟨0, hg⟩, Nat.zero_lt_one, fun j hj => (congrArg _ (Fin.ext (by simpa using hj))).le,
      fun j hj => absurd hj (Nat.not_lt_zero _), ?_⟩
    rw [run, step, start]
    pointwise
    rw [hi]
    simp only [hp, if_true, and_true]
    rfl
  | succ g ih =>
    have hi' := iouAt_eq c arg1 harg1 arg2 harg2 x0 x1 a b hx0 hx1 g (by omega) r q
    have f0 : word arg2 harg2 x1 (4 * g) (by omega) = b ⟨g, by omega⟩ 0 := by rw [word_eq]; exact hx1 ⟨g, by omega⟩ 0
    have f1 : word arg2 harg2 x1 (4 * g + 1) (by omega) = b ⟨g, by omega⟩ 1 := by rw [word_eq]; exact hx1 ⟨g, by omega⟩ 1
    have f2 : word arg2 harg2 x1 (4 * g + 2) (by omega) = b ⟨g, by omega⟩ 2 := by rw [word_eq]; exact hx1 ⟨g, by omega⟩ 2
    have f3 : word arg2 harg2 x1 (4 * g + 3) (by omega) = b ⟨g, by omega⟩ 3 := by rw [word_eq]; exact hx1 ⟨g, by omega⟩ 3
    obtain ⟨i, h1, h2, h3, hb, k1, k2, k3, k4⟩ := ih (by omega) f0 f1 f2 f3 _ hi'
    have hs : step (run c arg1 harg1 arg2 harg2 x0 x1 g) (iouAt c arg1 harg1 arg2 harg2 x0 x1 g (by omega))
        (b ⟨g, by omega⟩ 0) (b ⟨g, by omega⟩ 1) (b ⟨g, by omega⟩ 2) (b ⟨g, by omega⟩ 3)
        = run c arg1 harg1 arg2 harg2 x0 x1 (g + 1) := by
      rw [run_succ _ _ _ _ _ _ _ g (by omega), stepAt, f0, f1, f2, f3]
    rw [hs] at hb k1 k2 k3 k4
    generalize run c arg1 harg1 arg2 harg2 x0 x1 (g + 1) = s at hb k1 k2 k3 k4
    obtain ⟨m1, m2, m3⟩ := first_step (overlaps a b (at' r q)) (g + 1) hg h1 h2 h3
    refine ⟨_, m1, m2, m3, ?_⟩
    rw [step]
    pointwise
    rw [hi, hb, k1, k2, k3, k4]
    by_cases h : overlaps a b (at' r q) i < overlaps a b (at' r q) ⟨g + 1, hg⟩
    · simp only [h, if_true, and_self]
    · simp only [h, if_false, and_self]

/-- After `g` boxes, the anchors forced are the best ones of one of them. -/
theorem run_force (r : Fin 160) (q : Fin 125) (g : ℕ) (hg : g ≤ 32) :
    (run c arg1 harg1 arg2 harg2 x0 x1 g).force (ix2 r q) = 1#1
      ↔ ∃ j : Fin 32, j.val < g ∧ top (overlaps a b) j ≤ overlaps a b (at' r q) j ∧ 0 < top (overlaps a b) j := by
  induction g with
  | zero =>
    rw [run, start]
    pointwise
    exact ⟨fun h => absurd h (by decide), fun ⟨j, hj, _⟩ => absurd hj (Nat.not_lt_zero _)⟩
  | succ g ih =>
    rw [run_succ _ _ _ _ _ _ _ g hg, stepAt, step]
    have ht := topOf_eq (iouAt c arg1 harg1 arg2 harg2 x0 x1 g hg) (fun n => overlaps a b n ⟨g, hg⟩)
      (iouAt_eq c arg1 harg1 arg2 harg2 x0 x1 a b hx0 hx1 g hg)
    rw [forceStep_eq, ht, iouAt_eq c arg1 harg1 arg2 harg2 x0 x1 a b hx0 hx1 g hg, ih (by omega)]
    constructor
    · rintro (⟨j, hj, h⟩ | h)
      · exact ⟨j, by omega, h⟩
      · exact ⟨⟨g, hg⟩, Nat.lt_succ_self g, h⟩
    · rintro ⟨j, hj, h⟩
      rcases Nat.lt_succ_iff_lt_or_eq.mp hj with hj | hj
      · exact .inl ⟨j, hj, h⟩
      · have : j = ⟨g, hg⟩ := Fin.ext hj
        subst this
        exact .inr h

/-- What the pass holds in the end. -/
theorem run_end (r : Fin 160) (q : Fin 125) :
    let s := run c arg1 harg1 arg2 harg2 x0 x1 32
    let i := first (overlaps a b (at' r q))
    (s.force (ix2 r q) = 1#1 ↔ Forced (overlaps a b) (at' r q)) ∧ s.best (ix2 r q) = overlaps a b (at' r q) i
      ∧ IsFirst (overlaps a b (at' r q)) i
      ∧ s.t1 (ix2 r q) = b i 0 ∧ s.t2 (ix2 r q) = b i 1 ∧ s.t3 (ix2 r q) = b i 2 ∧ s.t4 (ix2 r q) = b i 3 := by
  obtain ⟨i, _, h2, h3, h⟩ := run_best c arg1 harg1 arg2 harg2 x0 x1 a b hx0 hx1 r q 31 (by decide)
  have hi : IsFirst (overlaps a b (at' r q)) i := ⟨fun j => h2 j j.isLt, h3⟩
  intro s i'
  have e : i' = i := first_eq hi
  rw [e]
  refine ⟨?_, h.1, hi, h.2⟩
  rw [run_force c arg1 harg1 arg2 harg2 x0 x1 a b hx0 hx1 r q 32 le_rfl]
  exact ⟨fun ⟨j, _, hj⟩ => ⟨j, hj⟩, fun ⟨j, hj⟩ => ⟨j, j.isLt, hj⟩⟩

end Cert.KState

end
-- ==== Proof.KEnd.lean ====
/- The end of the kernel's block: labels, the drop beyond the sample's size, and the values stored, as vectors. -/
module

public import proofs.«01_k».proof.Proof.KState

@[expose] public section

set_option maxRecDepth 16384

noncomputable section

namespace Cert.KState

open Idealize.ShloMosaic Cert.KernelIdeal Cert.KernelIdeal.Gen Cert.KernelIdeal.Gen.kernelRun0_A.sl

variable {F : FTy → Type} [FloatOps F]

/-- The labels from what the pass holds in the end. -/
def labelVec (s : St F) : IVec S160x125 32 :=
  select s.force (broadcast S160x125 1#32)
    (select (cmpf .oge s.best (broadcast S160x125 (Scalar.ofBits .f32 0x3F333333#32 : F .f32))) (broadcast S160x125 1#32)
      (select (cmpf .olt s.best (broadcast S160x125 (Scalar.ofBits .f32 0x3E99999A#32 : F .f32))) (broadcast S160x125 0#32)
        (broadcast S160x125 4294967295#32)))

/-- The counts of marked anchors within each row. -/
def withinVec (m : IVec S160x125 1) : FVec F S160x125 .f32 :=
  matmul dot_S160x125_S125x125_S160x125_1_0_0_1_n_n none
    (truncf .bf16 (sitofp .f32 (extui 32 m natLt_1_32) : FVec F S160x125 .f32) bitsLt_bf16_f32 : FVec F S160x125 .bf16)
    (k0_pay309 (F := F)) (constant S160x125 .f32 0x00000000#32)

/-- The counts in the rows before each row. -/
def beforeVec (w : FVec F S160x125 .f32) : FVec F S160x1 .f32 :=
  matmul dot_S160x160_S160x1_S160x1_1_0_0_1_n_n none (k0_pay310 (F := F))
    (truncf .bf16 (extractStridedSlice S160x1 ![0, 124] w slices_S160x125_o0_124_S160x1 : FVec F S160x1 .f32) bitsLt_bf16_f32
      : FVec F S160x1 .bf16) (constant S160x1 .f32 0x00000000#32)

/-- The counts of marked anchors up to each anchor. -/
def cumVec (m : IVec S160x125 1) : FVec F S160x125 .f32 :=
  addf (withinVec m) (broadcastTo S160x125 (beforeVec (withinVec m)) broadcasts_S160x1_S160x125)

/-- A count's last entry, which is the number of marked anchors. -/
def lastOf (v : FVec F S160x125 .f32) : FVec F S1x1 .f32 :=
  extractStridedSlice S1x1 ![159, 124] v slices_S160x125_o159_124_S1x1

/-- How many positives stay, from their number. -/
def keepPosVec (t : FVec F S1x1 .f32) : FVec F S1x1 .f32 :=
  minimumf t (broadcast S1x1 (Scalar.ofBits .f32 0x43000000#32 : F .f32))

/-- How many negatives stay, from their number and how many positives stay. -/
def keepNegVec (t k : FVec F S1x1 .f32) : FVec F S1x1 .f32 :=
  minimumf t (subf (broadcast S1x1 (Scalar.ofBits .f32 0x43800000#32 : F .f32)) k)

/-- The marked anchors whose count is beyond the limit. -/
def beyondVec (m : IVec S160x125 1) (v : FVec F S160x125 .f32) (k : FVec F S1x1 .f32) : IVec S160x125 1 :=
  andi m (xori (andi m (cmpf .ole v (broadcastTo S160x125 k broadcasts_S1x1_S160x125))) (constantI S160x125 1 1#1))

/-- The anchors dropped, from the positives and the negatives. -/
def dropVec (F : FTy → Type) [FloatOps F] (p n : IVec S160x125 1) : IVec S160x125 1 :=
  ori (beyondVec p (cumVec p : FVec F S160x125 .f32) (keepPosVec (lastOf (cumVec p))))
    (beyondVec n (cumVec n : FVec F S160x125 .f32) (keepNegVec (lastOf (cumVec n)) (keepPosVec (lastOf (cumVec p)))))

/-- The anchors of one label. -/
def isVec (l : IVec S160x125 32) (k : BitVec 32) : IVec S160x125 1 := cmpi .eq l (broadcast S160x125 k)

/-- A coordinate of the matched box: that of the box kept by the pass, or the first box's where the anchor is dropped. -/
def coordVec (d : IVec S160x125 1) (w : Elt F .f32) (t : FVec F S160x125 .f32) : FVec F S160x125 .f32 :=
  select d (broadcast S160x125 w) t

/-- An offset of a centre. -/
def centreVec (t1 t3 a1 a3 : FVec F S160x125 .f32) : FVec F S160x125 .f32 :=
  divf (subf (mulf (addf t1 t3) (broadcast S160x125 (Scalar.ofBits .f32 0x3F000000#32 : F .f32)))
    (mulf (addf a1 a3) (broadcast S160x125 (Scalar.ofBits .f32 0x3F000000#32 : F .f32)))) (subf a3 a1)

/-- An offset of an extent. -/
def extentVec (t1 t3 a1 a3 : FVec F S160x125 .f32) : FVec F S160x125 .f32 :=
  log (divf (subf t3 t1) (subf a3 a1))

variable (c : Dev nD) (arg1 : Memref sig .tc .vmem S1x4x160x125 .f32) (harg1 : arg1.IsWhole)
  (arg2 : Memref sig .tc .smem S1x1x128 .f32) (harg2 : arg2.IsWhole)
  (x0 : Vec F S1x4x160x125 .f32) (x1 : Vec F S1x1x128 .f32)

/-- What the pass holds after all boxes. -/
def last : St F := stepAt c arg1 harg1 arg2 harg2 x0 x1 (named c arg1 harg1 arg2 harg2 x0 x1 30) 31 (by decide)

theorem label_named : r_373 c arg1 harg1 arg2 harg2 x0 x1 = labelVec (last c arg1 harg1 arg2 harg2 x0 x1) := rfl

/-- The anchors dropped by the block. -/
def dropped : IVec S160x125 1 :=
  dropVec F (isVec (labelVec (last c arg1 harg1 arg2 harg2 x0 x1)) 1#32) (isVec (labelVec (last c arg1 harg1 arg2 harg2 x0 x1)) 0#32)

theorem dropped_named : r_377 c arg1 harg1 arg2 harg2 x0 x1 = dropped c arg1 harg1 arg2 harg2 x0 x1 := rfl

/-- The labels that the block stores. -/
def confVec : IVec S160x125 32 :=
  select (dropped c arg1 harg1 arg2 harg2 x0 x1) (broadcast S160x125 4294967295#32) (labelVec (last c arg1 harg1 arg2 harg2 x0 x1))

theorem conf_named : k0_pay321 (r_378 c arg1 harg1 arg2 harg2 x0 x1)
    = shapeCast S1x160x125 (confVec c arg1 harg1 arg2 harg2 x0 x1) shapeCasts_S160x125_S1x160x125 := rfl

/-- The four coordinates of the matched boxes. -/
def c1 : FVec F S160x125 .f32 := coordVec (dropped c arg1 harg1 arg2 harg2 x0 x1) (word arg2 harg2 x1 0 (by decide)) (last c arg1 harg1 arg2 harg2 x0 x1).t1
def c2 : FVec F S160x125 .f32 := coordVec (dropped c arg1 harg1 arg2 harg2 x0 x1) (word arg2 harg2 x1 1 (by decide)) (last c arg1 harg1 arg2 harg2 x0 x1).t2
def c3 : FVec F S160x125 .f32 := coordVec (dropped c arg1 harg1 arg2 harg2 x0 x1) (word arg2 harg2 x1 2 (by decide)) (last c arg1 harg1 arg2 harg2 x0 x1).t3
def c4 : FVec F S160x125 .f32 := coordVec (dropped c arg1 harg1 arg2 harg2 x0 x1) (word arg2 harg2 x1 3 (by decide)) (last c arg1 harg1 arg2 harg2 x0 x1).t4

/-- The four planes of offsets that the block stores. -/
theorem off0_named : k0_pay322 (r_4 c arg1 harg1 x0) (r_6 c arg1 harg1 x0) (r_371 c arg1 harg1 arg2 harg2 x0 x1)
      (r_377 c arg1 harg1 arg2 harg2 x0 x1) (r_2 c arg2 harg2 x1) (r_379 c arg1 harg1 arg2 harg2 x0 x1)
    = shapeCast S1x1x160x125 (centreVec (c1 c arg1 harg1 arg2 harg2 x0 x1) (c3 c arg1 harg1 arg2 harg2 x0 x1)
        (r_4 c arg1 harg1 x0) (r_6 c arg1 harg1 x0)) shapeCasts_S160x125_S1x1x160x125 := rfl

theorem off1_named : k0_pay323 (r_5 c arg1 harg1 x0) (r_7 c arg1 harg1 x0) (r_370 c arg1 harg1 arg2 harg2 x0 x1)
      (r_372 c arg1 harg1 arg2 harg2 x0 x1) (r_377 c arg1 harg1 arg2 harg2 x0 x1) (r_1 c arg2 harg2 x1) (r_3 c arg2 harg2 x1)
    = shapeCast S1x1x160x125 (centreVec (c2 c arg1 harg1 arg2 harg2 x0 x1) (c4 c arg1 harg1 arg2 harg2 x0 x1)
        (r_5 c arg1 harg1 x0) (r_7 c arg1 harg1 x0)) shapeCasts_S160x125_S1x1x160x125 := rfl

theorem off2_named : k0_pay1 (r_382 c arg1 harg1 arg2 harg2 x0 x1)
    = shapeCast S1x1x160x125 (extentVec (c1 c arg1 harg1 arg2 harg2 x0 x1) (c3 c arg1 harg1 arg2 harg2 x0 x1)
        (r_4 c arg1 harg1 x0) (r_6 c arg1 harg1 x0)) shapeCasts_S160x125_S1x1x160x125 := rfl

theorem off3_named : k0_pay2 (r_380 c arg1 harg1 arg2 harg2 x0 x1) (r_381 c arg1 harg1 x0)
    = shapeCast S1x1x160x125 (extentVec (c2 c arg1 harg1 arg2 harg2 x0 x1) (c4 c arg1 harg1 arg2 harg2 x0 x1)
        (r_5 c arg1 harg1 x0) (r_7 c arg1 harg1 x0)) shapeCasts_S160x125_S1x1x160x125 := rfl

end Cert.KState

end
-- ==== Proof.KBlock.lean ====
/- What the kernel's block stores, read at one anchor: the image's label and its four offsets. -/
module

public import proofs.«01_k».proof.Proof.KRead
public import proofs.«01_k».proof.Proof.KEnd
public import Idealize.ShloMosaic.Lib.StableHlo.Predicate

@[expose] public section

set_option maxRecDepth 16384

noncomputable section

namespace Cert.KState

open Idealize.ShloMosaic Cert.KernelIdeal Cert.KernelIdeal.Gen Cert.KernelIdeal.Gen.kernelRun0_A.sl
open Cert.Spec
open Classical

/-! ## Counting -/

theorem one_bit (x : BitVec 1) : x = 0#1 ∨ x = 1#1 := by
  revert x; decide

/-- A mark as a number. -/
theorem mark (x : BitVec 1) (p : Prop) (h : x = 1#1 ↔ p) :
    (FloatOps.sitofp (F := Ideal) .f32 (x.setWidth 32) : EReal) = ((if p then 1 else 0 : ℕ) : EReal) := by
  have e : x = 0#1 ∨ x = 1#1 := one_bit x
  rcases e with rfl | rfl
  · have hp : ¬ p := fun q => absurd (h.mpr q) (by decide)
    rw [if_neg hp]
    show (((((0#1 : BitVec 1).setWidth 32).toInt : ℝ)) : EReal) = _
    simp
  · rw [if_pos (h.mp rfl)]
    show (((((1#1 : BitVec 1).setWidth 32).toInt : ℝ)) : EReal) = _
    simp

theorem le_word (x q : ℕ) (hx : x < 2 ^ 31) (hq : q < 2 ^ 31) :
    IntOp.cmpi .sle (BitVec.ofNat 32 x) (BitVec.ofNat 32 q) = 1#1 ↔ x ≤ q := by
  rw [StableHlo.Predicate.sle_iff_toNat] <;> simp only [BitVec.toNat_ofNat]
  all_goals rw [Nat.mod_eq_of_lt (by omega)]
  · rw [Nat.mod_eq_of_lt (by omega)]
  all_goals assumption

theorem lt_word (x q : ℕ) (hx : x < 2 ^ 31) (hq : q < 2 ^ 31) :
    IntOp.cmpi .slt (BitVec.ofNat 32 x) (BitVec.ofNat 32 q) = 1#1 ↔ x < q := by
  rw [StableHlo.Predicate.slt_iff_toNat] <;> simp only [BitVec.toNat_ofNat]
  all_goals rw [Nat.mod_eq_of_lt (by omega)]
  · rw [Nat.mod_eq_of_lt (by omega)]
  all_goals assumption

theorem within_eq (m : IVec S160x125 1) (p : Fin 20000 → Prop) (hm : ∀ r q, m (ix2 r q) = 1#1 ↔ p (at' r q)) (r : Fin 160) (q : Fin 125) :
    (withinVec m : FVec Ideal S160x125 .f32) (ix2 r q) = ((rowCnt p r q : ℕ) : EReal) := by
  unfold withinVec k0_pay309
  pointwise
  rw [rowCnt, Nat.cast_sum]
  refine Finset.sum_congr rfl fun x _ => ?_
  rw [mark _ _ (hm r x), mark _ _ (le_word x.val q.val (by omega) (by omega)), ← EReal.natCast_mul]
  congr 1
  by_cases h1 : p (at' r x) <;> by_cases h2 : x ≤ q <;> simp [h1, h2]

theorem before_eq (w : FVec Ideal S160x125 .f32) (p : Fin 20000 → Prop) (hw : ∀ r q, w (ix2 r q) = ((rowCnt p r q : ℕ) : EReal))
    (r : Fin 160) :
    beforeVec w (ix2 r 0) = ((∑ s : Fin 160, (if s < r then rowCnt p s 124 else 0) : ℕ) : EReal) := by
  unfold beforeVec k0_pay310
  pointwise
  rw [Nat.cast_sum]
  refine Finset.sum_congr rfl fun x _ => ?_
  rw [mark _ (x < r) (lt_word x.val r.val (by omega) (by omega)), hw]
  by_cases h : x < r
  · rw [if_pos h, if_pos h, Nat.cast_one, one_mul]
  · rw [if_neg h, if_neg h, Nat.cast_zero, zero_mul]

/-- The kernel's count up to an anchor. -/
theorem cum_eq (m : IVec S160x125 1) (p : Fin 20000 → Prop) (hm : ∀ r q, m (ix2 r q) = 1#1 ↔ p (at' r q)) (r : Fin 160) (q : Fin 125) :
    (cumVec m : FVec Ideal S160x125 .f32) (ix2 r q) = ((cnt p ((at' r q).val + 1) : ℕ) : EReal) := by
  have hw := within_eq m p hm
  have hb := before_eq _ p hw r
  unfold cumVec
  generalize (withinVec m : FVec Ideal S160x125 .f32) = w at hw hb
  generalize beforeVec w = v at hb
  pointwise
  rw [hw, hb, ← Nat.cast_add, cnt_rows]

theorem natCast_min (x y : ℕ) : ((min x y : ℕ) : EReal) = min (x : EReal) (y : EReal) :=
  Monotone.map_min (f := fun n : ℕ => (n : EReal)) fun _ _ h => EReal.natCast_le_iff.mpr h

theorem natCast_sub (x y : ℕ) (h : y ≤ x) : ((x - y : ℕ) : EReal) = (x : EReal) - (y : EReal) := by
  rw [← EReal.coe_coe_eq_natCast, ← EReal.coe_coe_eq_natCast, ← EReal.coe_coe_eq_natCast, ← EReal.coe_sub, Nat.cast_sub h]

theorem last_eq (v : FVec Ideal S160x125 .f32) : lastOf v (ix2 0 0) = v (ix2 159 124) := by
  unfold lastOf
  pointwise
  try rfl

theorem keepPos_eq (t : FVec Ideal S1x1 .f32) (T : ℕ) (h : t (ix2 0 0) = (T : EReal)) :
    keepPosVec t (ix2 0 0) = ((keepPos T : ℕ) : EReal) := by
  unfold keepPosVec
  pointwise
  rw [h, ofBits_128, keepPos, natCast_min]

theorem keepNeg_eq (t k : FVec Ideal S1x1 .f32) (T K : ℕ) (h : t (ix2 0 0) = (T : EReal)) (hk : k (ix2 0 0) = (K : EReal)) (hK : K ≤ 256) :
    keepNegVec t k (ix2 0 0) = ((keepNeg T K : ℕ) : EReal) := by
  unfold keepNegVec
  pointwise
  rw [h, hk, ofBits_256, keepNeg, natCast_min, natCast_sub _ _ hK]

theorem beyond_eq (m : IVec S160x125 1) (v : FVec Ideal S160x125 .f32) (k : FVec Ideal S1x1 .f32) (K : ℕ) (hk : k (ix2 0 0) = (K : EReal))
    (p : Prop) (n : ℕ) (r : Fin 160) (q : Fin 125) (hm : m (ix2 r q) = 1#1 ↔ p) (hv : v (ix2 r q) = (n : EReal)) :
    beyondVec m v k (ix2 r q) = 1#1 ↔ p ∧ ¬ n ≤ K := by
  unfold beyondVec
  pointwise
  rw [hk, hv]
  rw [bit_and, bit_not, bit_and, bit_of, hm, EReal.natCast_le_iff]
  tauto

/-- The anchors dropped by the kernel's count are those beyond the sample's size. -/
theorem drop_eq (l : IVec S160x125 32) (f : Fin 20000 → BitVec 32) (hl : ∀ r q, l (ix2 r q) = f (at' r q)) (r : Fin 160) (q : Fin 125) :
    dropVec Ideal (isVec l 1#32) (isVec l 0#32) (ix2 r q) = 1#1 ↔ Dropped f (at' r q) := by
  have is : ∀ k r q, isVec l k (ix2 r q) = 1#1 ↔ f (at' r q) = k := by
    intro k r q
    rw [← hl]
    exact StableHlo.Predicate.cmpi_eq_iff
  have cp := cum_eq (isVec l 1#32) (fun n => f n = 1#32) (is 1#32)
  have cn := cum_eq (isVec l 0#32) (fun n => f n = 0#32) (is 0#32)
  have tp := (last_eq _).trans (cp 159 124)
  have tn := (last_eq _).trans (cn 159 124)
  rw [← cnt_all] at tp tn
  have kp := keepPos_eq _ _ tp
  have kn := keepNeg_eq _ _ _ _ tn kp ((min_le_right _ _).trans (by decide))
  show IntOp.ori _ _ = 1#1 ↔ _
  rw [bit_or, beyond_eq _ _ _ _ kp _ _ r q (is 1#32 r q) (cp r q), beyond_eq _ _ _ _ kn _ _ r q (is 0#32 r q) (cn r q)]
  rfl

variable (c : Dev nD) (arg1 : Memref sig .tc .vmem S1x4x160x125 .f32) (harg1 : arg1.IsWhole)
  (arg2 : Memref sig .tc .smem S1x1x128 .f32) (harg2 : arg2.IsWhole)
  (x0 : Vec Ideal S1x4x160x125 .f32) (x1 : Vec Ideal S1x1x128 .f32)
  (a : Fin 20000 → Fin 4 → EReal) (b : Fin 32 → Fin 4 → EReal)
  (hx0 : ∀ k r q, x0 (ix4 0 k r q) = a (at' r q) k)
  (hx1 : ∀ (g : Fin 32) (k : Fin 4), x1 (ix3 0 0 (boxAt g k)) = b g k)

theorem last_run : last c arg1 harg1 arg2 harg2 x0 x1 = run c arg1 harg1 arg2 harg2 x0 x1 32 := by
  rw [run_succ _ _ _ _ _ _ _ 31 (by decide), ← named_eq c arg1 harg1 arg2 harg2 x0 x1 30 (by decide)]
  rfl

theorem labelVec_eq (s : St Ideal) (r : Fin 160) (q : Fin 125) :
    labelVec s (ix2 r q) = labelOf (s.force (ix2 r q) = 1#1) (s.best (ix2 r q)) := by
  unfold labelVec labelOf
  pointwise
  by_cases h : s.force (ix2 r q) = 1#1 <;> simp [Scalar.select, h]

include hx0 hx1

theorem label_eq (r : Fin 160) (q : Fin 125) :
    labelVec (last c arg1 harg1 arg2 harg2 x0 x1) (ix2 r q) = label (overlaps a b) (at' r q) := by
  obtain ⟨h1, h2, _⟩ := run_end c arg1 harg1 arg2 harg2 x0 x1 a b hx0 hx1 r q
  rw [last_run, labelVec_eq, h2, label, propext h1]

theorem dropped_eq (r : Fin 160) (q : Fin 125) :
    dropped c arg1 harg1 arg2 harg2 x0 x1 (ix2 r q) = 1#1 ↔ Dropped (label (overlaps a b)) (at' r q) :=
  drop_eq _ _ (label_eq c arg1 harg1 arg2 harg2 x0 x1 a b hx0 hx1) r q

/-- The labels stored are the image's. -/
theorem conf_eq (r : Fin 160) (q : Fin 125) :
    confVec c arg1 harg1 arg2 harg2 x0 x1 (ix2 r q) = conf (overlaps a b) (at' r q) := by
  have hd := dropped_eq c arg1 harg1 arg2 harg2 x0 x1 a b hx0 hx1 r q
  have hl := label_eq c arg1 harg1 arg2 harg2 x0 x1 a b hx0 hx1 r q
  show (if dropped c arg1 harg1 arg2 harg2 x0 x1 (ix2 r q) = 1#1 then 4294967295#32
    else labelVec (last c arg1 harg1 arg2 harg2 x0 x1) (ix2 r q)) = _
  rw [hl, conf]
  exact if_congr hd rfl rfl

theorem coord_eq (r : Fin 160) (q : Fin 125) (w : EReal) (t : FVec Ideal S160x125 .f32) (k : Fin 4)
    (hw : w = b 0 k) (ht : t (ix2 r q) = b (first (overlaps a b (at' r q))) k) :
    coordVec (dropped c arg1 harg1 arg2 harg2 x0 x1) w t (ix2 r q) = b (box (overlaps a b) (at' r q)) k := by
  have hd := dropped_eq c arg1 harg1 arg2 harg2 x0 x1 a b hx0 hx1 r q
  show (if dropped c arg1 harg1 arg2 harg2 x0 x1 (ix2 r q) = 1#1 then w else t (ix2 r q)) = _
  rw [hw, ht, box]
  by_cases h : Dropped (label (overlaps a b)) (at' r q)
  · rw [if_pos (hd.mpr h), if_pos h]
  · rw [if_neg (fun e => h (hd.mp e)), if_neg h]

/-- The four coordinates of the matched box. -/
theorem coords_eq (r : Fin 160) (q : Fin 125) :
    c1 c arg1 harg1 arg2 harg2 x0 x1 (ix2 r q) = b (box (overlaps a b) (at' r q)) 0
    ∧ c2 c arg1 harg1 arg2 harg2 x0 x1 (ix2 r q) = b (box (overlaps a b) (at' r q)) 1
    ∧ c3 c arg1 harg1 arg2 harg2 x0 x1 (ix2 r q) = b (box (overlaps a b) (at' r q)) 2
    ∧ c4 c arg1 harg1 arg2 harg2 x0 x1 (ix2 r q) = b (box (overlaps a b) (at' r q)) 3 := by
  obtain ⟨_, _, _, k1, k2, k3, k4⟩ := run_end c arg1 harg1 arg2 harg2 x0 x1 a b hx0 hx1 r q
  rw [← last_run] at k1 k2 k3 k4
  refine ⟨?_, ?_, ?_, ?_⟩
  · exact coord_eq c arg1 harg1 arg2 harg2 x0 x1 a b hx0 hx1 r q _ _ 0 ((word_eq ..).trans (hx1 0 0)) k1
  · exact coord_eq c arg1 harg1 arg2 harg2 x0 x1 a b hx0 hx1 r q _ _ 1 ((word_eq ..).trans (hx1 0 1)) k2
  · exact coord_eq c arg1 harg1 arg2 harg2 x0 x1 a b hx0 hx1 r q _ _ 2 ((word_eq ..).trans (hx1 0 2)) k3
  · exact coord_eq c arg1 harg1 arg2 harg2 x0 x1 a b hx0 hx1 r q _ _ 3 ((word_eq ..).trans (hx1 0 3)) k4

omit hx0 hx1 in
theorem centre_eq (t1 t3 a1 a3 : FVec Ideal S160x125 .f32) (r : Fin 160) (q : Fin 125) :
    shapeCast S1x1x160x125 (centreVec t1 t3 a1 a3) shapeCasts_S160x125_S1x1x160x125 (ix4 0 0 r q)
      = Ideal.div ((t1 (ix2 r q) + t3 (ix2 r q)) * Ideal.ofBits .f32 0x3F000000#32
          - (a1 (ix2 r q) + a3 (ix2 r q)) * Ideal.ofBits .f32 0x3F000000#32) (a3 (ix2 r q) - a1 (ix2 r q)) := by
  unfold centreVec
  pointwise
  try rfl

omit hx0 hx1 in
theorem extent_eq (t1 t3 a1 a3 : FVec Ideal S160x125 .f32) (r : Fin 160) (q : Fin 125) :
    shapeCast S1x1x160x125 (extentVec t1 t3 a1 a3) shapeCasts_S160x125_S1x1x160x125 (ix4 0 0 r q)
      = Ideal.log (Ideal.div (t3 (ix2 r q) - t1 (ix2 r q)) (a3 (ix2 r q) - a1 (ix2 r q))) := by
  unfold extentVec
  pointwise
  try rfl

theorem stored_conf (r : Fin 160) (q : Fin 125) :
    k0_pay321 (r_378 c arg1 harg1 arg2 harg2 x0 x1) (ix3 0 r q) = conf (overlaps a b) (at' r q) := by
  rw [conf_named, ← conf_eq c arg1 harg1 arg2 harg2 x0 x1 a b hx0 hx1 r q]
  pointwise

theorem stored_off0 (r : Fin 160) (q : Fin 125) :
    k0_pay322 (r_4 c arg1 harg1 x0) (r_6 c arg1 harg1 x0) (r_371 c arg1 harg1 arg2 harg2 x0 x1)
      (r_377 c arg1 harg1 arg2 harg2 x0 x1) (r_2 c arg2 harg2 x1) (r_379 c arg1 harg1 arg2 harg2 x0 x1) (ix4 0 0 r q)
      = off (a (at' r q)) (b (box (overlaps a b) (at' r q))) 0 := by
  obtain ⟨k1, k2, k3, k4⟩ := coords_eq c arg1 harg1 arg2 harg2 x0 x1 a b hx0 hx1 r q
  rw [off0_named, centre_eq, k1, k3, r4_eq, r6_eq, hx0, hx0]
  rfl

theorem stored_off1 (r : Fin 160) (q : Fin 125) :
    k0_pay323 (r_5 c arg1 harg1 x0) (r_7 c arg1 harg1 x0) (r_370 c arg1 harg1 arg2 harg2 x0 x1)
      (r_372 c arg1 harg1 arg2 harg2 x0 x1) (r_377 c arg1 harg1 arg2 harg2 x0 x1) (r_1 c arg2 harg2 x1) (r_3 c arg2 harg2 x1) (ix4 0 0 r q)
      = off (a (at' r q)) (b (box (overlaps a b) (at' r q))) 1 := by
  obtain ⟨k1, k2, k3, k4⟩ := coords_eq c arg1 harg1 arg2 harg2 x0 x1 a b hx0 hx1 r q
  rw [off1_named, centre_eq, k2, k4, r5_eq, r7_eq, hx0, hx0]
  rfl

theorem stored_off2 (r : Fin 160) (q : Fin 125) :
    k0_pay1 (r_382 c arg1 harg1 arg2 harg2 x0 x1) (ix4 0 0 r q) = off (a (at' r q)) (b (box (overlaps a b) (at' r q))) 2 := by
  obtain ⟨k1, k2, k3, k4⟩ := coords_eq c arg1 harg1 arg2 harg2 x0 x1 a b hx0 hx1 r q
  rw [off2_named, extent_eq, k1, k3, r4_eq, r6_eq, hx0, hx0]
  rfl

theorem stored_off3 (r : Fin 160) (q : Fin 125) :
    k0_pay2 (r_380 c arg1 harg1 arg2 harg2 x0 x1) (r_381 c arg1 harg1 x0) (ix4 0 0 r q)
      = off (a (at' r q)) (b (box (overlaps a b) (at' r q))) 3 := by
  obtain ⟨k1, k2, k3, k4⟩ := coords_eq c arg1 harg1 arg2 harg2 x0 x1 a b hx0 hx1 r q
  rw [off3_named, extent_eq, k2, k4, r5_eq, r7_eq, hx0, hx0]
  rfl

end Cert.KState

end
-- ==== Proof.KArray.lean ====
/- The kernel's run: its two results as functions of the anchors and the boxes. -/
module

public import proofs.«01_k».proof.Proof.KBlock
public import Idealize.ShloMosaic.Lib.WritesUnit
public import Idealize.ShloMosaic.Lib.Pipeline.ValueKit

@[expose] public section

set_option maxRecDepth 16384

noncomputable section

namespace Cert.KArray

open Idealize.ShloMosaic Idealize.ShloMosaic.TcCoe Idealize.ShloMosaic.StableHlo Idealize.SL.Sem
open Idealize.ShloMosaic.Pipeline (Dat)
open Cert.KernelIdeal Cert.KernelIdeal.Gen Cert.Spec

/-! ## What the block leaves in its two staging buffers -/

section Block

variable (c : Dev nD) (i : grid0.Coords) (arg1 : Memref sig .tc .vmem S1x4x160x125 .f32) (harg1 : arg1.IsWhole)
  (arg2 : Memref sig .tc .smem S1x1x128 .f32) (harg2 : arg2.IsWhole)
  (arg3 : Memref sig .tc .vmem S1x160x125 .i32) (harg3 : arg3.IsWhole) (arg4 : Memref sig .tc .vmem S1x4x160x125 .f32) (harg4 : arg4.IsWhole)
  (x0 : Vec Ideal S1x4x160x125 .f32) (x1 : Vec Ideal S1x1x128 .f32)
  (a : Fin 20000 → Fin 4 → EReal) (b : Fin 32 → Fin 4 → EReal)
  (hx0 : ∀ k r q, x0 (ix4 0 k r q) = a (at' r q) k)
  (hx1 : ∀ (g : Fin 32) (k : Fin 4), x1 (ix3 0 0 (boxAt g k)) = b g k)

include hx0 hx1

theorem out2_eq (r : Fin 160) (q : Fin 125) :
    out0_A_2 c i arg1 harg1 arg2 harg2 arg3 harg3 arg4 harg4 x0 x1 (ix3 0 r q) = conf (overlaps a b) (at' r q) := by
  rw [← KState.stored_conf c arg1 harg1 arg2 harg2 x0 x1 a b hx0 hx1 r q]
  unfold out0_A_2
  exact View.read_writes_cons_unit_of_mem VO0_2 _ _ _ [] _ (ix3 0 r q) rfl fun a => by fin_cases a <;> simp

theorem out3_eq (k : Fin 4) (r : Fin 160) (q : Fin 125) :
    out0_A_3 c i arg1 harg1 arg2 harg2 arg3 harg3 arg4 harg4 x0 x1 (ix4 0 k r q)
      = off (a (at' r q)) (b (box (overlaps a b) (at' r q))) k := by
  have e0 := KState.stored_off0 c arg1 harg1 arg2 harg2 x0 x1 a b hx0 hx1 r q
  have e1 := KState.stored_off1 c arg1 harg1 arg2 harg2 x0 x1 a b hx0 hx1 r q
  have e2 := KState.stored_off2 c arg1 harg1 arg2 harg2 x0 x1 a b hx0 hx1 r q
  have e3 := KState.stored_off3 c arg1 harg1 arg2 harg2 x0 x1 a b hx0 hx1 r q
  unfold out0_A_3
  fin_cases k
  · refine Eq.trans ?_ e0
    refine (View.read_writes_cons_unit_of_not_mem VO0_3 _ _ _ _ _ rfl 1 (.inl (show 0 < 3 by decide))).trans ?_
    refine (View.read_writes_cons_unit_of_not_mem VO0_3 _ _ _ _ _ rfl 1 (.inl (show 0 < 2 by decide))).trans ?_
    refine (View.read_writes_cons_unit_of_not_mem VO0_3 _ _ _ _ _ rfl 1 (.inl (show 0 < 1 by decide))).trans ?_
    exact View.read_writes_cons_unit_of_mem VO0_3 _ _ _ _ _ (ix4 0 0 r q) rfl fun a => by fin_cases a <;> simp
  · refine Eq.trans ?_ e1
    refine (View.read_writes_cons_unit_of_not_mem VO0_3 _ _ _ _ _ rfl 1 (.inl (show 1 < 3 by decide))).trans ?_
    refine (View.read_writes_cons_unit_of_not_mem VO0_3 _ _ _ _ _ rfl 1 (.inl (show 1 < 2 by decide))).trans ?_
    exact View.read_writes_cons_unit_of_mem VO0_3 _ _ _ _ _ (ix4 0 0 r q) rfl fun a => by fin_cases a <;> simp
  · refine Eq.trans ?_ e2
    refine (View.read_writes_cons_unit_of_not_mem VO0_3 _ _ _ _ _ rfl 1 (.inl (show 2 < 3 by decide))).trans ?_
    exact View.read_writes_cons_unit_of_mem VO0_3 _ _ _ _ _ (ix4 0 0 r q) rfl fun a => by fin_cases a <;> simp
  · refine Eq.trans ?_ e3
    exact View.read_writes_cons_unit_of_mem VO0_3 _ _ _ _ _ (ix4 0 0 r q) rfl fun a => by fin_cases a <;> simp

end Block

/-! ## What a block is given -/

variable (m : (ℓ : Loc nD τ sig) → Buf (Elt Ideal) ℓ) (ρ : Dev nD → PrngReg) (c : Dev nD)

/-- The anchors' coordinates as launched. -/
abbrev anchors : FVec Ideal S8x20000x4 .f32 := m ((c : Thread nD τ).loc main_arg1)

/-- The boxes' coordinates as launched. -/
abbrev boxes : FVec Ideal S8x32x4 .f32 := m ((c : Thread nD τ).loc main_arg2)

theorem V_v1 : V m c main_v1 = (shapeCast S8x4x160x125 (transpose S8x4x20000 [0, 2, 1] (anchors m c) transposes_S8x20000x4_S8x4x20000_0_2_1)
    shapeCasts_S8x4x20000_S8x4x160x125 : FVec Ideal S8x4x160x125 .f32) := by
  unfold V V0
  after_results_simp
  rfl

theorem V_v2 : V m c main_v2 = (shapeCast S8x1x128 (boxes m c) shapeCasts_S8x32x4_S8x1x128 : FVec Ideal S8x1x128 .f32) := by
  unfold V V0
  simp only [List.flatten_cons, List.flatten_nil, List.append_nil, hostOps0]
  after_results_simp
  rfl

/-- The image that a grid point takes. -/
def img (t : Fin cfg0.N) : Fin 8 := ⟨t.val, t.isLt⟩

theorem blk0 (t : Fin cfg0.N) (k : Fin 4) (r : Fin 160) (q : Fin 125) :
    iblk m c 0 t (ix4 0 k r q) = anchors m c (ix3 (img t) (at' r q) k) := by
  have e : ∀ t : Fin cfg0.N, win0_0.index t = ![t.val, 0, 0, 0] := (by decide +kernel : ∀ t : Fin grid0.N, _)
  have p : (win0_0.blk t).view.emb (ix4 0 k r q) = ix4 (img t) k r q := by blk_ext [e, img]
  blk_simp [iblk]
  rw [V_v1, p]
  pointwise
  exact congrArg (fun n => anchors m c (ix3 (img t) n k)) (Fin.ext (by simp only [at']; omega))

theorem blk1 (t : Fin cfg0.N) (g : Fin 32) (k : Fin 4) :
    iblk m c 1 t (ix3 0 0 (boxAt g k)) = boxes m c (ix3 (img t) g k) := by
  have e : ∀ t : Fin cfg0.N, win0_1.index t = ![t.val, 0, 0] := (by decide +kernel : ∀ t : Fin grid0.N, _)
  have p : (win0_1.blk t).view.emb (ix3 0 0 (boxAt g k)) = ix3 (img t) 0 (boxAt g k) := by blk_ext [e, img]
  blk_simp [iblk]
  rw [V_v2, p]
  pointwise
  refine congrArg₂ (fun g k => boxes m c (ix3 (img t) g k)) (Fin.ext ?_) (Fin.ext ?_) <;> simp only [boxAt] <;> omega

/-! ## The two arrays -/

/-- The labels from the anchors and the boxes. -/
def confs (x1 : FVec Ideal S8x20000x4 .f32) (x2 : FVec Ideal S8x32x4 .f32) (t : Fin 8) (n : Fin 20000) : BitVec 32 :=
  conf (overlaps (fun n k => x1 (ix3 t n k)) fun g k => x2 (ix3 t g k)) n

/-- The offsets from the anchors and the boxes. -/
def offs (x1 : FVec Ideal S8x20000x4 .f32) (x2 : FVec Ideal S8x32x4 .f32) (t : Fin 8) (n : Fin 20000) (k : Fin 4) : EReal :=
  off (fun k => x1 (ix3 t n k))
    (fun k => x2 (ix3 t (box (overlaps (fun n k => x1 (ix3 t n k)) fun g k => x2 (ix3 t g k)) n) k)) k

/-- What the first array's buffer holds after grid point `t`. -/
theorem at2 (t : Fin cfg0.N) (r : Fin 160) (q : Fin 125) :
    (outsAt0 m c t).1 (ix3 0 r q) = confs (anchors m c) (boxes m c) (img t) (at' r q) := by
  unfold outsAt0 confs
  have h := out2_eq c (grid0.coords t) (ms0_0 t) (hs0_0 t) (ms0_1 t) (hs0_1 t) (ms0_2 t) (hs0_2 t) (ms0_3 t) (hs0_3 t) (iblk m c 0 t) (iblk m c 1 t)
    (fun n k => anchors m c (ix3 (img t) n k)) (fun g k => boxes m c (ix3 (img t) g k)) (blk0 m c t) (blk1 m c t) r q
  dsimp only
  exact h

theorem arr2 : (dats m 0 c).arrAt 2 cfg0.N
    = (fun i : S8x160x125.Idx => confs (anchors m c) (boxes m c) (i 0) (at' (i 1) (i 2)) : IVec S8x160x125 32) := by
  refine (dats m 0 c).arrAt_eq_of_covers 2 _ (by decide +kernel) fun t hf y => ?_
  have e : ∀ t : Fin cfg0.N, win0_2.index t = ![t.val, 0, 0] := (by decide +kernel : ∀ t : Fin grid0.N, _)
  blk_simp
  rw [after0_2]
  change S1x160x125.Idx at y
  idx_vars y
  obtain rfl : y0 = 0 := Subsingleton.elim _ _
  have p : (win0_2.blk t).view.emb (ix3 0 y1 y2) = ix3 (img t) y1 y2 := by blk_ext [e, img]
  exact (at2 m c t y1 y2).trans (congrArg (fun j : S8x160x125.Idx => confs (anchors m c) (boxes m c) (j 0) (at' (j 1) (j 2))) p).symm

/-- What the second array's buffer holds after grid point `t`. -/
theorem at3 (t : Fin cfg0.N) (k : Fin 4) (r : Fin 160) (q : Fin 125) :
    (outsAt0 m c t).2 (ix4 0 k r q) = offs (anchors m c) (boxes m c) (img t) (at' r q) k := by
  unfold outsAt0 offs
  have h := out3_eq c (grid0.coords t) (ms0_0 t) (hs0_0 t) (ms0_1 t) (hs0_1 t) (ms0_2 t) (hs0_2 t) (ms0_3 t) (hs0_3 t) (iblk m c 0 t) (iblk m c 1 t)
    (fun n k => anchors m c (ix3 (img t) n k)) (fun g k => boxes m c (ix3 (img t) g k)) (blk0 m c t) (blk1 m c t) k r q
  dsimp only
  exact h

theorem arr3 : (dats m 0 c).arrAt 3 cfg0.N
    = (fun i : S8x4x160x125.Idx => offs (anchors m c) (boxes m c) (i 0) (at' (i 2) (i 3)) (i 1) : FVec Ideal S8x4x160x125 .f32) := by
  refine (dats m 0 c).arrAt_eq_of_covers 3 _ (by decide +kernel) fun t hf y => ?_
  have e : ∀ t : Fin cfg0.N, win0_3.index t = ![t.val, 0, 0, 0] := (by decide +kernel : ∀ t : Fin grid0.N, _)
  blk_simp
  rw [after0_3]
  change S1x4x160x125.Idx at y
  idx_vars y
  obtain rfl : y0 = 0 := Subsingleton.elim _ _
  have p : (win0_3.blk t).view.emb (ix4 0 y1 y2 y3) = ix4 (img t) y1 y2 y3 := by blk_ext [e, img]
  exact (at3 m c t y1 y2 y3).trans (congrArg (fun j : S8x4x160x125.Idx => offs (anchors m c) (boxes m c) (j 0) (at' (j 2) (j 3)) (j 1)) p).symm

/-! ## The run -/

theorem left2 : Pipeline.withArrays (cfgs 0).spec c (V0 m c) (fun w => (dats m 0 c).arrAt w (cfgs 0).N) (Proc.tc.devRef main_v3_0)
    = (fun i : S8x160x125.Idx => confs (anchors m c) (boxes m c) (i 0) (at' (i 1) (i 2)) : IVec S8x160x125 32) :=
  (Pipeline.withArrays_arr (cfgs 0).spec (by decide +kernel) c (V0 m c) (fun w => (dats m 0 c).arrAt w (cfgs 0).N) 2).trans (arr2 m c)

theorem left3 : Pipeline.withArrays (cfgs 0).spec c (V0 m c) (fun w => (dats m 0 c).arrAt w (cfgs 0).N) (Proc.tc.devRef main_v3_1)
    = (fun i : S8x4x160x125.Idx => offs (anchors m c) (boxes m c) (i 0) (at' (i 2) (i 3)) (i 1) : FVec Ideal S8x4x160x125 .f32) :=
  (Pipeline.withArrays_arr (cfgs 0).spec (by decide +kernel) c (V0 m c) (fun w => (dats m 0 c).arrAt w (cfgs 0).N) 3).trans (arr3 m c)

/-- The first result. -/
abbrev confArr (x1 : FVec Ideal S8x20000x4 .f32) (x2 : FVec Ideal S8x32x4 .f32) : IVec S8x20000 32 := fun i => confs x1 x2 (i 0) (i 1)

/-- The second result. -/
abbrev offArr (x1 : FVec Ideal S8x20000x4 .f32) (x2 : FVec Ideal S8x32x4 .f32) : FVec Ideal S8x20000x4 .f32 :=
  fun i => offs x1 x2 (i 0) (i 1) (i 2)

theorem res4 : Pipeline.afterTail₀ cfgs (dats m) 0 (V0 m) [hostOps1] c main_v4 = confArr (anchors m c) (boxes m c) := by
  have e : Pipeline.afterTail₀ cfgs (dats m) 0 (V0 m) [hostOps1] c main_v4 = (shapeCast S8x20000
      (fun i : S8x160x125.Idx => confs (anchors m c) (boxes m c) (i 0) (at' (i 1) (i 2)) : IVec S8x160x125 32)
      shapeCasts_S8x160x125_S8x20000 : IVec S8x20000 32) := by
    rw [← left2 m c]
    unfold Pipeline.afterTail₀
    simp only [List.flatten_cons, List.flatten_nil, List.append_nil, hostOps1]
    after_results_simp
    rfl
  rw [e]
  funext i
  change S8x20000.Idx at i
  idx_vars i
  pointwise
  exact congrArg (confs (anchors m c) (boxes m c) i0) (Fin.ext (show 125 * (i1.val / 125) + i1.val % 125 = i1.val by omega))

theorem res6 : Pipeline.afterTail₀ cfgs (dats m) 0 (V0 m) [hostOps1] c main_v6 = offArr (anchors m c) (boxes m c) := by
  have e : Pipeline.afterTail₀ cfgs (dats m) 0 (V0 m) [hostOps1] c main_v6 = (transpose S8x20000x4 [0, 2, 1] (shapeCast S8x4x20000
      (fun i : S8x4x160x125.Idx => offs (anchors m c) (boxes m c) (i 0) (at' (i 2) (i 3)) (i 1) : FVec Ideal S8x4x160x125 .f32)
      shapeCasts_S8x4x160x125_S8x4x20000 : FVec Ideal S8x4x20000 .f32) transposes_S8x4x20000_S8x20000x4_0_2_1
      : FVec Ideal S8x20000x4 .f32) := by
    rw [← left3 m c]
    unfold Pipeline.afterTail₀
    simp only [List.flatten_cons, List.flatten_nil, List.append_nil, hostOps1]
    after_results_simp
    rfl
  rw [e]
  funext i
  change S8x20000x4.Idx at i
  idx_vars i
  pointwise
  exact congrArg (fun n => offs (anchors m c) (boxes m c) i0 n i2) (Fin.ext (show 125 * (i1.val / 125) + i1.val % 125 = i1.val by omega))

/-- The run: both results, and the arguments unchanged. -/
theorem run : θ_run defs (onTc (τ := τ) (main (F := Ideal))) ⟨m, fun _ => 0, ρ⟩ fun r => ∀ c : Dev nD,
      r.2.mem ((c : Thread nD τ).loc main_v4) = confArr (anchors m c) (boxes m c)
      ∧ r.2.mem ((c : Thread nD τ).loc main_v6) = offArr (anchors m c) (boxes m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v4 (Pipeline.mem_restRefs_of main_v4 (by decide) (by decide))).trans (res4 m c),
      ((h c).2 main_v6 (Pipeline.mem_restRefs_of main_v6 (by decide) (by decide))).trans (res6 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KArray

end
-- ==== Proof.RefOps.lean ====
/- The reference's operations in order, its calls unfolded, cut into five stretches; `main` is their sequence, and its run leaves every
buffer at the fold of the operations over the launch contents. -/
module

public import proofs.«01_k».proof.Proof.Gen.ReferenceIdeal
public import Idealize.ShloMosaic.Lib.StableHlo.Run

@[expose] public section

set_option maxRecDepth 16384

noncomputable section

namespace Cert.RefRun

open Idealize.ShloMosaic Idealize.ShloMosaic.TcCoe Idealize.ShloMosaic.StableHlo Idealize.SL.Sem
open Cert.ReferenceIdeal Cert.ReferenceIdeal.Gen

variable {F : FTy → Type} [FloatOps F]

/-- Operations: the boxes' areas, the intersections and the intersections over unions. -/
abbrev opsIou : List (HloOp τ sig (Elt F)) :=
  [ unary main_arg1 main_v0 ((extractStridedSlice S8x20000x1 ![0, 0, 2] · slices_S8x20000x4_S8x20000x1_0_0_2) : (⟨S8x20000x4, .f32⟩ : BufTy).Contents (Elt F) → (⟨S8x20000x1, .f32⟩ : BufTy).Contents (Elt F)),
    reshape main_v0 main_v1 (rfl : (.f32 : EltTy) = .f32) shapeCasts_S8x20000x1_S8x20000,
    unary main_arg1 main_v2 ((extractStridedSlice S8x20000x1 ![0, 0, 0] · slices_S8x20000x4_S8x20000x1_0_0_0) : (⟨S8x20000x4, .f32⟩ : BufTy).Contents (Elt F) → (⟨S8x20000x1, .f32⟩ : BufTy).Contents (Elt F)),
    reshape main_v2 main_v3 (rfl : (.f32 : EltTy) = .f32) shapeCasts_S8x20000x1_S8x20000,
    binary main_v1 main_v3 main_v4 (subf : (⟨S8x20000, .f32⟩ : BufTy).Contents (Elt F) → (⟨S8x20000, .f32⟩ : BufTy).Contents (Elt F) → (⟨S8x20000, .f32⟩ : BufTy).Contents (Elt F)),
    unary main_arg1 main_v5 ((extractStridedSlice S8x20000x1 ![0, 0, 3] · slices_S8x20000x4_S8x20000x1_0_0_3) : (⟨S8x20000x4, .f32⟩ : BufTy).Contents (Elt F) → (⟨S8x20000x1, .f32⟩ : BufTy).Contents (Elt F)),
    reshape main_v5 main_v6 (rfl : (.f32 : EltTy) = .f32) shapeCasts_S8x20000x1_S8x20000,
    unary main_arg1 main_v7 ((extractStridedSlice S8x20000x1 ![0, 0, 1] · slices_S8x20000x4_S8x20000x1_0_0_1) : (⟨S8x20000x4, .f32⟩ : BufTy).Contents (Elt F) → (⟨S8x20000x1, .f32⟩ : BufTy).Contents (Elt F)),
    reshape main_v7 main_v8 (rfl : (.f32 : EltTy) = .f32) shapeCasts_S8x20000x1_S8x20000,
    binary main_v6 main_v8 main_v9 (subf : (⟨S8x20000, .f32⟩ : BufTy).Contents (Elt F) → (⟨S8x20000, .f32⟩ : BufTy).Contents (Elt F) → (⟨S8x20000, .f32⟩ : BufTy).Contents (Elt F)),
    binary main_v4 main_v9 main_v10 (mulf : (⟨S8x20000, .f32⟩ : BufTy).Contents (Elt F) → (⟨S8x20000, .f32⟩ : BufTy).Contents (Elt F) → (⟨S8x20000, .f32⟩ : BufTy).Contents (Elt F)),
    unary main_arg2 main_v11 ((extractStridedSlice S8x32x1 ![0, 0, 2] · slices_S8x32x4_S8x32x1_0_0_2) : (⟨S8x32x4, .f32⟩ : BufTy).Contents (Elt F) → (⟨S8x32x1, .f32⟩ : BufTy).Contents (Elt F)),
    reshape main_v11 main_v12 (rfl : (.f32 : EltTy) = .f32) shapeCasts_S8x32x1_S8x32,
    unary main_arg2 main_v13 ((extractStridedSlice S8x32x1 ![0, 0, 0] · slices_S8x32x4_S8x32x1_0_0_0) : (⟨S8x32x4, .f32⟩ : BufTy).Contents (Elt F) → (⟨S8x32x1, .f32⟩ : BufTy).Contents (Elt F)),
    reshape main_v13 main_v14 (rfl : (.f32 : EltTy) = .f32) shapeCasts_S8x32x1_S8x32,
    binary main_v12 main_v14 main_v15 (subf : (⟨S8x32, .f32⟩ : BufTy).Contents (Elt F) → (⟨S8x32, .f32⟩ : BufTy).Contents (Elt F) → (⟨S8x32, .f32⟩ : BufTy).Contents (Elt F)),
    unary main_arg2 main_v16 ((extractStridedSlice S8x32x1 ![0, 0, 3] · slices_S8x32x4_S8x32x1_0_0_3) : (⟨S8x32x4, .f32⟩ : BufTy).Contents (Elt F) → (⟨S8x32x1, .f32⟩ : BufTy).Contents (Elt F)),
    reshape main_v16 main_v17 (rfl : (.f32 : EltTy) = .f32) shapeCasts_S8x32x1_S8x32,
    unary main_arg2 main_v18 ((extractStridedSlice S8x32x1 ![0, 0, 1] · slices_S8x32x4_S8x32x1_0_0_1) : (⟨S8x32x4, .f32⟩ : BufTy).Contents (Elt F) → (⟨S8x32x1, .f32⟩ : BufTy).Contents (Elt F)),
    reshape main_v18 main_v19 (rfl : (.f32 : EltTy) = .f32) shapeCasts_S8x32x1_S8x32,
    binary main_v17 main_v19 main_v20 (subf : (⟨S8x32, .f32⟩ : BufTy).Contents (Elt F) → (⟨S8x32, .f32⟩ : BufTy).Contents (Elt F) → (⟨S8x32, .f32⟩ : BufTy).Contents (Elt F)),
    binary main_v15 main_v20 main_v21 (mulf : (⟨S8x32, .f32⟩ : BufTy).Contents (Elt F) → (⟨S8x32, .f32⟩ : BufTy).Contents (Elt F) → (⟨S8x32, .f32⟩ : BufTy).Contents (Elt F)),
    unary main_arg1 main_v22 ((extractStridedSlice S8x20000x2 ![0, 0, 0] · slices_S8x20000x4_S8x20000x2_0_0_0) : (⟨S8x20000x4, .f32⟩ : BufTy).Contents (Elt F) → (⟨S8x20000x2, .f32⟩ : BufTy).Contents (Elt F)),
    unary main_v22 main_v23 (broadcastInDim S8x20000x1x2 ![0, 1, 3] bcast_S8x20000x2_S8x20000x1x2_0_1_3 : (⟨S8x20000x2, .f32⟩ : BufTy).Contents (Elt F) → (⟨S8x20000x1x2, .f32⟩ : BufTy).Contents (Elt F)),
    unary main_arg2 main_v24 ((extractStridedSlice S8x32x2 ![0, 0, 0] · slices_S8x32x4_S8x32x2_0_0_0) : (⟨S8x32x4, .f32⟩ : BufTy).Contents (Elt F) → (⟨S8x32x2, .f32⟩ : BufTy).Contents (Elt F)),
    unary main_v24 main_v25 (broadcastInDim S8x1x32x2 ![0, 2, 3] bcast_S8x32x2_S8x1x32x2_0_2_3 : (⟨S8x32x2, .f32⟩ : BufTy).Contents (Elt F) → (⟨S8x1x32x2, .f32⟩ : BufTy).Contents (Elt F)),
    unary main_v23 main_v26 (broadcastInDim S8x20000x32x2 ![0, 1, 2, 3] bcast_S8x20000x1x2_S8x20000x32x2_0_1_2_3 : (⟨S8x20000x1x2, .f32⟩ : BufTy).Contents (Elt F) → (⟨S8x20000x32x2, .f32⟩ : BufTy).Contents (Elt F)),
    unary main_v25 main_v27 (broadcastInDim S8x20000x32x2 ![0, 1, 2, 3] bcast_S8x1x32x2_S8x20000x32x2_0_1_2_3 : (⟨S8x1x32x2, .f32⟩ : BufTy).Contents (Elt F) → (⟨S8x20000x32x2, .f32⟩ : BufTy).Contents (Elt F)),
    binary main_v26 main_v27 main_v28 (maximumf : (⟨S8x20000x32x2, .f32⟩ : BufTy).Contents (Elt F) → (⟨S8x20000x32x2, .f32⟩ : BufTy).Contents (Elt F) → (⟨S8x20000x32x2, .f32⟩ : BufTy).Contents (Elt F)),
    unary main_arg1 main_v29 ((extractStridedSlice S8x20000x2 ![0, 0, 2] · slices_S8x20000x4_S8x20000x2_0_0_2) : (⟨S8x20000x4, .f32⟩ : BufTy).Contents (Elt F) → (⟨S8x20000x2, .f32⟩ : BufTy).Contents (Elt F)),
    unary main_v29 main_v30 (broadcastInDim S8x20000x1x2 ![0, 1, 3] bcast_S8x20000x2_S8x20000x1x2_0_1_3 : (⟨S8x20000x2, .f32⟩ : BufTy).Contents (Elt F) → (⟨S8x20000x1x2, .f32⟩ : BufTy).Contents (Elt F)),
    unary main_arg2 main_v31 ((extractStridedSlice S8x32x2 ![0, 0, 2] · slices_S8x32x4_S8x32x2_0_0_2) : (⟨S8x32x4, .f32⟩ : BufTy).Contents (Elt F) → (⟨S8x32x2, .f32⟩ : BufTy).Contents (Elt F)),
    unary main_v31 main_v32 (broadcastInDim S8x1x32x2 ![0, 2, 3] bcast_S8x32x2_S8x1x32x2_0_2_3 : (⟨S8x32x2, .f32⟩ : BufTy).Contents (Elt F) → (⟨S8x1x32x2, .f32⟩ : BufTy).Contents (Elt F)),
    unary main_v30 main_v33 (broadcastInDim S8x20000x32x2 ![0, 1, 2, 3] bcast_S8x20000x1x2_S8x20000x32x2_0_1_2_3 : (⟨S8x20000x1x2, .f32⟩ : BufTy).Contents (Elt F) → (⟨S8x20000x32x2, .f32⟩ : BufTy).Contents (Elt F)),
    unary main_v32 main_v34 (broadcastInDim S8x20000x32x2 ![0, 1, 2, 3] bcast_S8x1x32x2_S8x20000x32x2_0_1_2_3 : (⟨S8x1x32x2, .f32⟩ : BufTy).Contents (Elt F) → (⟨S8x20000x32x2, .f32⟩ : BufTy).Contents (Elt F)),
    binary main_v33 main_v34 main_v35 (minimumf : (⟨S8x20000x32x2, .f32⟩ : BufTy).Contents (Elt F) → (⟨S8x20000x32x2, .f32⟩ : BufTy).Contents (Elt F) → (⟨S8x20000x32x2, .f32⟩ : BufTy).Contents (Elt F)),
    binary main_v35 main_v28 main_v36 (subf : (⟨S8x20000x32x2, .f32⟩ : BufTy).Contents (Elt F) → (⟨S8x20000x32x2, .f32⟩ : BufTy).Contents (Elt F) → (⟨S8x20000x32x2, .f32⟩ : BufTy).Contents (Elt F)),
    nullary main_cst (constant S_ .f32 0x00000000#32),
    TRef.unary (.of main_cst : TRef sig ⟨S_, .f32⟩) main_call0.v0 id,
    TRef.unary main_call0.v0 main_call0.v1 (broadcastInDim S8x20000x32x2 ![] bcast_S_S8x20000x32x2),
    TRef.binary main_call0.v1 (.of main_v36 : TRef sig ⟨S8x20000x32x2, .f32⟩) main_call0.v2 maximumf,
    unary main_v37 main_v38 ((extractStridedSlice S8x20000x32x1 ![0, 0, 0, 0] · slices_S8x20000x32x2_S8x20000x32x1_0_0_0_0) : (⟨S8x20000x32x2, .f32⟩ : BufTy).Contents (Elt F) → (⟨S8x20000x32x1, .f32⟩ : BufTy).Contents (Elt F)),
    reshape main_v38 main_v39 (rfl : (.f32 : EltTy) = .f32) shapeCasts_S8x20000x32x1_S8x20000x32,
    unary main_v37 main_v40 ((extractStridedSlice S8x20000x32x1 ![0, 0, 0, 1] · slices_S8x20000x32x2_S8x20000x32x1_0_0_0_1) : (⟨S8x20000x32x2, .f32⟩ : BufTy).Contents (Elt F) → (⟨S8x20000x32x1, .f32⟩ : BufTy).Contents (Elt F)),
    reshape main_v40 main_v41 (rfl : (.f32 : EltTy) = .f32) shapeCasts_S8x20000x32x1_S8x20000x32,
    binary main_v39 main_v41 main_v42 (mulf : (⟨S8x20000x32, .f32⟩ : BufTy).Contents (Elt F) → (⟨S8x20000x32, .f32⟩ : BufTy).Contents (Elt F) → (⟨S8x20000x32, .f32⟩ : BufTy).Contents (Elt F)),
    unary main_v10 main_v43 (broadcastInDim S8x20000x1 ![0, 1] bcast_S8x20000_S8x20000x1_0_1 : (⟨S8x20000, .f32⟩ : BufTy).Contents (Elt F) → (⟨S8x20000x1, .f32⟩ : BufTy).Contents (Elt F)),
    unary main_v21 main_v44 (broadcastInDim S8x1x32 ![0, 2] bcast_S8x32_S8x1x32_0_2 : (⟨S8x32, .f32⟩ : BufTy).Contents (Elt F) → (⟨S8x1x32, .f32⟩ : BufTy).Contents (Elt F)),
    unary main_v43 main_v45 (broadcastInDim S8x20000x32 ![0, 1, 2] bcast_S8x20000x1_S8x20000x32_0_1_2 : (⟨S8x20000x1, .f32⟩ : BufTy).Contents (Elt F) → (⟨S8x20000x32, .f32⟩ : BufTy).Contents (Elt F)),
    unary main_v44 main_v46 (broadcastInDim S8x20000x32 ![0, 1, 2] bcast_S8x1x32_S8x20000x32_0_1_2 : (⟨S8x1x32, .f32⟩ : BufTy).Contents (Elt F) → (⟨S8x20000x32, .f32⟩ : BufTy).Contents (Elt F)),
    binary main_v45 main_v46 main_v47 (addf : (⟨S8x20000x32, .f32⟩ : BufTy).Contents (Elt F) → (⟨S8x20000x32, .f32⟩ : BufTy).Contents (Elt F) → (⟨S8x20000x32, .f32⟩ : BufTy).Contents (Elt F)),
    binary main_v47 main_v42 main_v48 (subf : (⟨S8x20000x32, .f32⟩ : BufTy).Contents (Elt F) → (⟨S8x20000x32, .f32⟩ : BufTy).Contents (Elt F) → (⟨S8x20000x32, .f32⟩ : BufTy).Contents (Elt F)),
    nullary main_cst_0 (constant S_ .f32 0x3089705F#32),
    unary main_cst_0 main_v49 (broadcastInDim S8x20000x32 ![] bcast_S_S8x20000x32 : (⟨S_, .f32⟩ : BufTy).Contents (Elt F) → (⟨S8x20000x32, .f32⟩ : BufTy).Contents (Elt F)),
    binary main_v48 main_v49 main_v50 (maximumf : (⟨S8x20000x32, .f32⟩ : BufTy).Contents (Elt F) → (⟨S8x20000x32, .f32⟩ : BufTy).Contents (Elt F) → (⟨S8x20000x32, .f32⟩ : BufTy).Contents (Elt F)),
    binary main_v42 main_v50 main_v51 (Host.divf : (⟨S8x20000x32, .f32⟩ : BufTy).Contents (Elt F) → (⟨S8x20000x32, .f32⟩ : BufTy).Contents (Elt F) → (⟨S8x20000x32, .f32⟩ : BufTy).Contents (Elt F)) ]

/-- Operations: the best overlap of each anchor and the box that has it. -/
abbrev opsBest : List (HloOp τ sig (Elt F)) :=
  [ nullary main_cst_1 (constant S_ .f32 0xFF800000#32),
    binary main_v51 main_cst_1 main_v52 ((fun x v => Host.reduce FloatOps.maximumf x v reducesTo_S8x20000x32_S8x20000_d2 h_S_) : (⟨S8x20000x32, .f32⟩ : BufTy).Contents (Elt F) → (⟨S_, .f32⟩ : BufTy).Contents (Elt F) → (⟨S8x20000, .f32⟩ : BufTy).Contents (Elt F)),
    TRef.nullary main_call1.v0 (iotaInDim S8x20000x32 32 2),
    TRef.nullary main_call1.cst (constant S_ .f32 0xFF800000#32),
    TRef.nullary main_call1.c (constantI S_ 32 0#32),
    TRef.quaternary (.of main_v51 : TRef sig ⟨S8x20000x32, .f32⟩) main_call1.v0 main_call1.cst main_call1.c main_call1.v1_0 (fun x y u v j => (Host.argReduce reducer_argmax_f32_i32 x y u v reducesTo_S8x20000x32_S8x20000_d2 h_S_ j).1),
    TRef.quaternary (.of main_v51 : TRef sig ⟨S8x20000x32, .f32⟩) main_call1.v0 main_call1.cst main_call1.c main_call1.v1_1 (fun x y u v j => (Host.argReduce reducer_argmax_f32_i32 x y u v reducesTo_S8x20000x32_S8x20000_d2 h_S_ j).2),
    nullary main_c (constantI S_ 32 4294967295#32),
    unary main_c main_v54 (broadcastInDim S20000 ![] bcast_S_S20000 : (⟨S_, .i32⟩ : BufTy).Contents (Elt F) → (⟨S20000, .i32⟩ : BufTy).Contents (Elt F)),
    nullary main_cst_2 (constant S_ .f32 0x3E99999A#32) ]

/-- Operations: the anchors forced by a box and the labels. -/
abbrev opsLabel : List (HloOp τ sig (Elt F)) :=
  [ unary main_cst_2 main_v55 (broadcastInDim S8x20000 ![] bcast_S_S8x20000 : (⟨S_, .f32⟩ : BufTy).Contents (Elt F) → (⟨S8x20000, .f32⟩ : BufTy).Contents (Elt F)),
    binary main_v52 main_v55 main_v56 (cmpf .olt : (⟨S8x20000, .f32⟩ : BufTy).Contents (Elt F) → (⟨S8x20000, .f32⟩ : BufTy).Contents (Elt F) → (⟨S8x20000, .i1⟩ : BufTy).Contents (Elt F)),
    nullary main_c_3 (constantI S_ 32 0#32),
    TRef.unary (.of main_c_3 : TRef sig ⟨S_, .i32⟩) main_call2.v0 id,
    TRef.unary main_call2.v0 main_call2.v1 (broadcastInDim S20000 ![] bcast_S_S20000),
    TRef.unary (.of main_v54 : TRef sig ⟨S20000, .i32⟩) main_call2.v2 (broadcastInDim S8x20000 ![1] bcast_S20000_S8x20000_1),
    TRef.unary main_call2.v1 main_call2.v3 (broadcastInDim S8x20000 ![1] bcast_S20000_S8x20000_1),
    TRef.ternary (.of main_v56 : TRef sig ⟨S8x20000, .i1⟩) main_call2.v3 main_call2.v2 main_call2.v4 select,
    nullary main_cst_4 (constant S_ .f32 0x3F333333#32),
    unary main_cst_4 main_v58 (broadcastInDim S8x20000 ![] bcast_S_S8x20000 : (⟨S_, .f32⟩ : BufTy).Contents (Elt F) → (⟨S8x20000, .f32⟩ : BufTy).Contents (Elt F)),
    binary main_v52 main_v58 main_v59 (cmpf .oge : (⟨S8x20000, .f32⟩ : BufTy).Contents (Elt F) → (⟨S8x20000, .f32⟩ : BufTy).Contents (Elt F) → (⟨S8x20000, .i1⟩ : BufTy).Contents (Elt F)),
    nullary main_c_5 (constantI S_ 32 1#32),
    TRef.unary (.of main_c_5 : TRef sig ⟨S_, .i32⟩) main_call3.v0 id,
    TRef.unary main_call3.v0 main_call3.v1 (broadcastInDim S20000 ![] bcast_S_S20000),
    TRef.unary main_call3.v1 main_call3.v2 (broadcastInDim S8x20000 ![1] bcast_S20000_S8x20000_1),
    TRef.ternary (.of main_v59 : TRef sig ⟨S8x20000, .i1⟩) main_call3.v2 (.of main_v57 : TRef sig ⟨S8x20000, .i32⟩) main_call3.v3 select,
    nullary main_cst_6 (constant S_ .f32 0xFF800000#32),
    binary main_v51 main_cst_6 main_v61 ((fun x v => Host.reduce FloatOps.maximumf x v reducesTo_S8x20000x32_S8x32_d1 h_S_) : (⟨S8x20000x32, .f32⟩ : BufTy).Contents (Elt F) → (⟨S_, .f32⟩ : BufTy).Contents (Elt F) → (⟨S8x32, .f32⟩ : BufTy).Contents (Elt F)),
    unary main_v61 main_v62 (broadcastInDim S8x1x32 ![0, 2] bcast_S8x32_S8x1x32_0_2 : (⟨S8x32, .f32⟩ : BufTy).Contents (Elt F) → (⟨S8x1x32, .f32⟩ : BufTy).Contents (Elt F)),
    unary main_v62 main_v63 (broadcastInDim S8x20000x32 ![0, 1, 2] bcast_S8x1x32_S8x20000x32_0_1_2 : (⟨S8x1x32, .f32⟩ : BufTy).Contents (Elt F) → (⟨S8x20000x32, .f32⟩ : BufTy).Contents (Elt F)),
    binary main_v51 main_v63 main_v64 (cmpf .oge : (⟨S8x20000x32, .f32⟩ : BufTy).Contents (Elt F) → (⟨S8x20000x32, .f32⟩ : BufTy).Contents (Elt F) → (⟨S8x20000x32, .i1⟩ : BufTy).Contents (Elt F)),
    unary main_v61 main_v65 (broadcastInDim S8x1x32 ![0, 2] bcast_S8x32_S8x1x32_0_2 : (⟨S8x32, .f32⟩ : BufTy).Contents (Elt F) → (⟨S8x1x32, .f32⟩ : BufTy).Contents (Elt F)),
    nullary main_cst_7 (constant S_ .f32 0x00000000#32),
    unary main_cst_7 main_v66 (broadcastInDim S8x1x32 ![] bcast_S_S8x1x32 : (⟨S_, .f32⟩ : BufTy).Contents (Elt F) → (⟨S8x1x32, .f32⟩ : BufTy).Contents (Elt F)),
    binary main_v65 main_v66 main_v67 (cmpf .ogt : (⟨S8x1x32, .f32⟩ : BufTy).Contents (Elt F) → (⟨S8x1x32, .f32⟩ : BufTy).Contents (Elt F) → (⟨S8x1x32, .i1⟩ : BufTy).Contents (Elt F)),
    unary main_v67 main_v68 (broadcastInDim S8x20000x32 ![0, 1, 2] bcast_S8x1x32_S8x20000x32_0_1_2 : (⟨S8x1x32, .i1⟩ : BufTy).Contents (Elt F) → (⟨S8x20000x32, .i1⟩ : BufTy).Contents (Elt F)),
    binary main_v64 main_v68 main_v69 (andi : (⟨S8x20000x32, .i1⟩ : BufTy).Contents (Elt F) → (⟨S8x20000x32, .i1⟩ : BufTy).Contents (Elt F) → (⟨S8x20000x32, .i1⟩ : BufTy).Contents (Elt F)),
    nullary main_c_8 (constantI S_ 1 0#1),
    binary main_v69 main_c_8 main_v70 ((fun x v => Host.reduce IntOp.ori x v reducesTo_S8x20000x32_S8x20000_d2 h_S_) : (⟨S8x20000x32, .i1⟩ : BufTy).Contents (Elt F) → (⟨S_, .i1⟩ : BufTy).Contents (Elt F) → (⟨S8x20000, .i1⟩ : BufTy).Contents (Elt F)),
    nullary main_c_9 (constantI S_ 32 1#32),
    TRef.unary (.of main_c_9 : TRef sig ⟨S_, .i32⟩) main_call4.v0 id,
    TRef.unary main_call4.v0 main_call4.v1 (broadcastInDim S20000 ![] bcast_S_S20000),
    TRef.unary main_call4.v1 main_call4.v2 (broadcastInDim S8x20000 ![1] bcast_S20000_S8x20000_1),
    TRef.ternary (.of main_v70 : TRef sig ⟨S8x20000, .i1⟩) main_call4.v2 (.of main_v60 : TRef sig ⟨S8x20000, .i32⟩) main_call4.v3 select ]

/-- Operations: the counts, the running counts and the anchors that are dropped. -/
abbrev opsRemove : List (HloOp τ sig (Elt F)) :=
  [ nullary main_c_10 (constantI S_ 32 1#32),
    unary main_c_10 main_v72 (broadcastInDim S8x20000 ![] bcast_S_S8x20000 : (⟨S_, .i32⟩ : BufTy).Contents (Elt F) → (⟨S8x20000, .i32⟩ : BufTy).Contents (Elt F)),
    binary main_v71 main_v72 main_v73 (cmpi .eq : (⟨S8x20000, .i32⟩ : BufTy).Contents (Elt F) → (⟨S8x20000, .i32⟩ : BufTy).Contents (Elt F) → (⟨S8x20000, .i1⟩ : BufTy).Contents (Elt F)),
    nullary main_c_11 (constantI S_ 32 0#32),
    unary main_c_11 main_v74 (broadcastInDim S8x20000 ![] bcast_S_S8x20000 : (⟨S_, .i32⟩ : BufTy).Contents (Elt F) → (⟨S8x20000, .i32⟩ : BufTy).Contents (Elt F)),
    binary main_v71 main_v74 main_v75 (cmpi .eq : (⟨S8x20000, .i32⟩ : BufTy).Contents (Elt F) → (⟨S8x20000, .i32⟩ : BufTy).Contents (Elt F) → (⟨S8x20000, .i1⟩ : BufTy).Contents (Elt F)),
    unary main_v73 main_v76 ((extui 32 · natLt_1_32) : (⟨S8x20000, .i1⟩ : BufTy).Contents (Elt F) → (⟨S8x20000, .i32⟩ : BufTy).Contents (Elt F)),
    nullary main_c_12 (constantI S_ 32 0#32),
    binary main_v76 main_c_12 main_v77 ((fun x v => Host.reduce IntOp.addi x v reducesTo_S8x20000_S8_d1 h_S_) : (⟨S8x20000, .i32⟩ : BufTy).Contents (Elt F) → (⟨S_, .i32⟩ : BufTy).Contents (Elt F) → (⟨S8, .i32⟩ : BufTy).Contents (Elt F)),
    nullary main_c_13 (constantI S_ 32 128#32),
    unary main_c_13 main_v78 (broadcastInDim S8 ![] bcast_S_S8 : (⟨S_, .i32⟩ : BufTy).Contents (Elt F) → (⟨S8, .i32⟩ : BufTy).Contents (Elt F)),
    binary main_v77 main_v78 main_v79 (minsi : (⟨S8, .i32⟩ : BufTy).Contents (Elt F) → (⟨S8, .i32⟩ : BufTy).Contents (Elt F) → (⟨S8, .i32⟩ : BufTy).Contents (Elt F)),
    unary main_v75 main_v80 ((extui 32 · natLt_1_32) : (⟨S8x20000, .i1⟩ : BufTy).Contents (Elt F) → (⟨S8x20000, .i32⟩ : BufTy).Contents (Elt F)),
    nullary main_c_14 (constantI S_ 32 0#32),
    binary main_v80 main_c_14 main_v81 ((fun x v => Host.reduce IntOp.addi x v reducesTo_S8x20000_S8_d1 h_S_) : (⟨S8x20000, .i32⟩ : BufTy).Contents (Elt F) → (⟨S_, .i32⟩ : BufTy).Contents (Elt F) → (⟨S8, .i32⟩ : BufTy).Contents (Elt F)),
    nullary main_c_15 (constantI S_ 32 256#32),
    unary main_c_15 main_v82 (broadcastInDim S8 ![] bcast_S_S8 : (⟨S_, .i32⟩ : BufTy).Contents (Elt F) → (⟨S8, .i32⟩ : BufTy).Contents (Elt F)),
    binary main_v82 main_v79 main_v83 (subi : (⟨S8, .i32⟩ : BufTy).Contents (Elt F) → (⟨S8, .i32⟩ : BufTy).Contents (Elt F) → (⟨S8, .i32⟩ : BufTy).Contents (Elt F)),
    binary main_v81 main_v83 main_v84 (minsi : (⟨S8, .i32⟩ : BufTy).Contents (Elt F) → (⟨S8, .i32⟩ : BufTy).Contents (Elt F) → (⟨S8, .i32⟩ : BufTy).Contents (Elt F)),
    unary main_v73 main_v85 ((extui 32 · natLt_1_32) : (⟨S8x20000, .i1⟩ : BufTy).Contents (Elt F) → (⟨S8x20000, .i32⟩ : BufTy).Contents (Elt F)),
    TRef.nullary main_call5.call0.c (constantI S_ 32 0#32),
    TRef.unary main_call5.call0.c main_call5.call0.v0 (broadcastInDim S_ ![] bcast_S_S_),
    TRef.binary (.of main_v85 : TRef sig ⟨S8x20000, .i32⟩) main_call5.call0.v0 main_call5.call0.v1 (fun x v => Host.reduceWindow IntOp.addi ![1, 20000] ![1, 1] ![0, 19999] ![0, 0] x v reduceWindows_S8x20000_S8x20000_w1s1p0_0_w20000s1p19999_0 h_S_),
    unary main_v79 main_v87 (broadcastInDim S8x1 ![0] bcast_S8_S8x1_0 : (⟨S8, .i32⟩ : BufTy).Contents (Elt F) → (⟨S8x1, .i32⟩ : BufTy).Contents (Elt F)),
    unary main_v87 main_v88 (broadcastInDim S8x20000 ![0, 1] bcast_S8x1_S8x20000_0_1 : (⟨S8x1, .i32⟩ : BufTy).Contents (Elt F) → (⟨S8x20000, .i32⟩ : BufTy).Contents (Elt F)),
    binary main_v86 main_v88 main_v89 (cmpi .sle : (⟨S8x20000, .i32⟩ : BufTy).Contents (Elt F) → (⟨S8x20000, .i32⟩ : BufTy).Contents (Elt F) → (⟨S8x20000, .i1⟩ : BufTy).Contents (Elt F)),
    binary main_v73 main_v89 main_v90 (andi : (⟨S8x20000, .i1⟩ : BufTy).Contents (Elt F) → (⟨S8x20000, .i1⟩ : BufTy).Contents (Elt F) → (⟨S8x20000, .i1⟩ : BufTy).Contents (Elt F)),
    unary main_v75 main_v91 ((extui 32 · natLt_1_32) : (⟨S8x20000, .i1⟩ : BufTy).Contents (Elt F) → (⟨S8x20000, .i32⟩ : BufTy).Contents (Elt F)),
    TRef.nullary main_call6.call0.c (constantI S_ 32 0#32),
    TRef.unary main_call6.call0.c main_call6.call0.v0 (broadcastInDim S_ ![] bcast_S_S_),
    TRef.binary (.of main_v91 : TRef sig ⟨S8x20000, .i32⟩) main_call6.call0.v0 main_call6.call0.v1 (fun x v => Host.reduceWindow IntOp.addi ![1, 20000] ![1, 1] ![0, 19999] ![0, 0] x v reduceWindows_S8x20000_S8x20000_w1s1p0_0_w20000s1p19999_0 h_S_),
    unary main_v84 main_v93 (broadcastInDim S8x1 ![0] bcast_S8_S8x1_0 : (⟨S8, .i32⟩ : BufTy).Contents (Elt F) → (⟨S8x1, .i32⟩ : BufTy).Contents (Elt F)),
    unary main_v93 main_v94 (broadcastInDim S8x20000 ![0, 1] bcast_S8x1_S8x20000_0_1 : (⟨S8x1, .i32⟩ : BufTy).Contents (Elt F) → (⟨S8x20000, .i32⟩ : BufTy).Contents (Elt F)),
    binary main_v92 main_v94 main_v95 (cmpi .sle : (⟨S8x20000, .i32⟩ : BufTy).Contents (Elt F) → (⟨S8x20000, .i32⟩ : BufTy).Contents (Elt F) → (⟨S8x20000, .i1⟩ : BufTy).Contents (Elt F)),
    binary main_v75 main_v95 main_v96 (andi : (⟨S8x20000, .i1⟩ : BufTy).Contents (Elt F) → (⟨S8x20000, .i1⟩ : BufTy).Contents (Elt F) → (⟨S8x20000, .i1⟩ : BufTy).Contents (Elt F)),
    unary main_v90 main_v97 (noti : (⟨S8x20000, .i1⟩ : BufTy).Contents (Elt F) → (⟨S8x20000, .i1⟩ : BufTy).Contents (Elt F)),
    binary main_v73 main_v97 main_v98 (andi : (⟨S8x20000, .i1⟩ : BufTy).Contents (Elt F) → (⟨S8x20000, .i1⟩ : BufTy).Contents (Elt F) → (⟨S8x20000, .i1⟩ : BufTy).Contents (Elt F)),
    unary main_v96 main_v99 (noti : (⟨S8x20000, .i1⟩ : BufTy).Contents (Elt F) → (⟨S8x20000, .i1⟩ : BufTy).Contents (Elt F)),
    binary main_v75 main_v99 main_v100 (andi : (⟨S8x20000, .i1⟩ : BufTy).Contents (Elt F) → (⟨S8x20000, .i1⟩ : BufTy).Contents (Elt F) → (⟨S8x20000, .i1⟩ : BufTy).Contents (Elt F)),
    binary main_v98 main_v100 main_v101 (ori : (⟨S8x20000, .i1⟩ : BufTy).Contents (Elt F) → (⟨S8x20000, .i1⟩ : BufTy).Contents (Elt F) → (⟨S8x20000, .i1⟩ : BufTy).Contents (Elt F)) ]

/-- Operations: the labels and matched boxes after the drop. -/
abbrev opsTake : List (HloOp τ sig (Elt F)) :=
  [ nullary main_c_16 (constantI S_ 32 4294967295#32),
    TRef.unary (.of main_c_16 : TRef sig ⟨S_, .i32⟩) main_call7.v0 id,
    TRef.unary main_call7.v0 main_call7.v1 (broadcastInDim S20000 ![] bcast_S_S20000),
    TRef.unary main_call7.v1 main_call7.v2 (broadcastInDim S8x20000 ![1] bcast_S20000_S8x20000_1),
    TRef.ternary (.of main_v101 : TRef sig ⟨S8x20000, .i1⟩) main_call7.v2 (.of main_v71 : TRef sig ⟨S8x20000, .i32⟩) main_call7.v3 select,
    nullary main_c_17 (constantI S_ 32 0#32),
    TRef.unary (.of main_c_17 : TRef sig ⟨S_, .i32⟩) main_call8.v0 id,
    TRef.unary main_call8.v0 main_call8.v1 (broadcastInDim S20000 ![] bcast_S_S20000),
    TRef.unary main_call8.v1 main_call8.v2 (broadcastInDim S8x20000 ![1] bcast_S20000_S8x20000_1),
    TRef.ternary (.of main_v101 : TRef sig ⟨S8x20000, .i1⟩) main_call8.v2 (.of main_v53 : TRef sig ⟨S8x20000, .i32⟩) main_call8.v3 select,
    TRef.nullary main_call9.c (constantI S_ 32 0#32),
    TRef.unary main_call9.c main_call9.v0 (broadcastInDim S8x20000 ![] bcast_S_S8x20000),
    TRef.binary (.of main_v103 : TRef sig ⟨S8x20000, .i32⟩) main_call9.v0 main_call9.v1 (cmpi .slt),
    TRef.nullary main_call9.c_0 (constantI S_ 32 32#32),
    TRef.unary main_call9.c_0 main_call9.v2 (broadcastInDim S8x20000 ![] bcast_S_S8x20000),
    TRef.binary (.of main_v103 : TRef sig ⟨S8x20000, .i32⟩) main_call9.v2 main_call9.v3 addi,
    TRef.ternary main_call9.v1 main_call9.v3 (.of main_v103 : TRef sig ⟨S8x20000, .i32⟩) main_call9.call0.v0 select,
    TRef.unary main_call9.call0.v0 main_call9.v5 (broadcastInDim S8x20000x1 ![0, 1] bcast_S8x20000_S8x20000x1_0_1),
    TRef.nullary main_call9.c_1 (constantI S1 32 31#32),
    TRef.nullary main_call9.c_2 (constantI S_ 32 0#32),
    TRef.unary main_call9.c_2 main_call9.v6 (broadcastInDim S8x20000x1 ![] bcast_S_S8x20000x1),
    TRef.binary main_call9.v5 main_call9.v6 main_call9.v7 (cmpi .sge),
    TRef.unary main_call9.c_1 main_call9.v8 (broadcastInDim S1x1x1 ![2] bcast_S1_S1x1x1_2),
    TRef.unary main_call9.v8 main_call9.v9 (broadcastInDim S8x20000x1 ![0, 1, 2] bcast_S1x1x1_S8x20000x1_0_1_2),
    TRef.binary main_call9.v5 main_call9.v9 main_call9.v10 (cmpi .sle),
    TRef.binary main_call9.v7 main_call9.v10 main_call9.v11 andi,
    TRef.nullary main_call9.c_3 (constantI S_ 1 1#1),
    TRef.binary main_call9.v11 main_call9.c_3 main_call9.v12 (fun x v => Host.reduce IntOp.andi x v reducesTo_S8x20000x1_S8x20000_d2 h_S_),
    TRef.binary (.of main_arg2 : TRef sig ⟨S8x32x4, .f32⟩) main_call9.v5 main_call9.v13 (fun x i => Host.gather gather_S8x32x4_S8x20000x1_S8x20000x4_2_1_0_0_1_2_114 x i),
    TRef.unary main_call9.v12 main_call9.v14 (broadcastInDim S8x20000x4 ![0, 1] bcast_S8x20000_S8x20000x4_0_1),
    TRef.nullary main_call9.cst (constant S_ .f32 0x7FC00000#32),
    TRef.unary main_call9.cst main_call9.v15 (broadcastInDim S8x20000x4 ![] bcast_S_S8x20000x4),
    TRef.ternary main_call9.v14 main_call9.v13 main_call9.v15 main_call9.v16 select ]

/-- Operations: centres and extents of the matched boxes and of the anchors. -/
abbrev opsCentre : List (HloOp τ sig (Elt F)) :=
  [ unary main_v104 main_v105 ((extractStridedSlice S8x20000x1 ![0, 0, 0] · slices_S8x20000x4_S8x20000x1_0_0_0) : (⟨S8x20000x4, .f32⟩ : BufTy).Contents (Elt F) → (⟨S8x20000x1, .f32⟩ : BufTy).Contents (Elt F)),
    reshape main_v105 main_v106 (rfl : (.f32 : EltTy) = .f32) shapeCasts_S8x20000x1_S8x20000,
    unary main_v104 main_v107 ((extractStridedSlice S8x20000x1 ![0, 0, 2] · slices_S8x20000x4_S8x20000x1_0_0_2) : (⟨S8x20000x4, .f32⟩ : BufTy).Contents (Elt F) → (⟨S8x20000x1, .f32⟩ : BufTy).Contents (Elt F)),
    reshape main_v107 main_v108 (rfl : (.f32 : EltTy) = .f32) shapeCasts_S8x20000x1_S8x20000,
    binary main_v106 main_v108 main_v109 (addf : (⟨S8x20000, .f32⟩ : BufTy).Contents (Elt F) → (⟨S8x20000, .f32⟩ : BufTy).Contents (Elt F) → (⟨S8x20000, .f32⟩ : BufTy).Contents (Elt F)),
    nullary main_cst_18 (constant S_ .f32 0x3F000000#32),
    unary main_cst_18 main_v110 (broadcastInDim S8x20000 ![] bcast_S_S8x20000 : (⟨S_, .f32⟩ : BufTy).Contents (Elt F) → (⟨S8x20000, .f32⟩ : BufTy).Contents (Elt F)),
    binary main_v109 main_v110 main_v111 (mulf : (⟨S8x20000, .f32⟩ : BufTy).Contents (Elt F) → (⟨S8x20000, .f32⟩ : BufTy).Contents (Elt F) → (⟨S8x20000, .f32⟩ : BufTy).Contents (Elt F)),
    unary main_v104 main_v112 ((extractStridedSlice S8x20000x1 ![0, 0, 1] · slices_S8x20000x4_S8x20000x1_0_0_1) : (⟨S8x20000x4, .f32⟩ : BufTy).Contents (Elt F) → (⟨S8x20000x1, .f32⟩ : BufTy).Contents (Elt F)),
    reshape main_v112 main_v113 (rfl : (.f32 : EltTy) = .f32) shapeCasts_S8x20000x1_S8x20000,
    unary main_v104 main_v114 ((extractStridedSlice S8x20000x1 ![0, 0, 3] · slices_S8x20000x4_S8x20000x1_0_0_3) : (⟨S8x20000x4, .f32⟩ : BufTy).Contents (Elt F) → (⟨S8x20000x1, .f32⟩ : BufTy).Contents (Elt F)),
    reshape main_v114 main_v115 (rfl : (.f32 : EltTy) = .f32) shapeCasts_S8x20000x1_S8x20000,
    binary main_v113 main_v115 main_v116 (addf : (⟨S8x20000, .f32⟩ : BufTy).Contents (Elt F) → (⟨S8x20000, .f32⟩ : BufTy).Contents (Elt F) → (⟨S8x20000, .f32⟩ : BufTy).Contents (Elt F)),
    nullary main_cst_19 (constant S_ .f32 0x3F000000#32),
    unary main_cst_19 main_v117 (broadcastInDim S8x20000 ![] bcast_S_S8x20000 : (⟨S_, .f32⟩ : BufTy).Contents (Elt F) → (⟨S8x20000, .f32⟩ : BufTy).Contents (Elt F)),
    binary main_v116 main_v117 main_v118 (mulf : (⟨S8x20000, .f32⟩ : BufTy).Contents (Elt F) → (⟨S8x20000, .f32⟩ : BufTy).Contents (Elt F) → (⟨S8x20000, .f32⟩ : BufTy).Contents (Elt F)),
    unary main_v104 main_v119 ((extractStridedSlice S8x20000x1 ![0, 0, 2] · slices_S8x20000x4_S8x20000x1_0_0_2) : (⟨S8x20000x4, .f32⟩ : BufTy).Contents (Elt F) → (⟨S8x20000x1, .f32⟩ : BufTy).Contents (Elt F)),
    reshape main_v119 main_v120 (rfl : (.f32 : EltTy) = .f32) shapeCasts_S8x20000x1_S8x20000,
    unary main_v104 main_v121 ((extractStridedSlice S8x20000x1 ![0, 0, 0] · slices_S8x20000x4_S8x20000x1_0_0_0) : (⟨S8x20000x4, .f32⟩ : BufTy).Contents (Elt F) → (⟨S8x20000x1, .f32⟩ : BufTy).Contents (Elt F)),
    reshape main_v121 main_v122 (rfl : (.f32 : EltTy) = .f32) shapeCasts_S8x20000x1_S8x20000,
    binary main_v120 main_v122 main_v123 (subf : (⟨S8x20000, .f32⟩ : BufTy).Contents (Elt F) → (⟨S8x20000, .f32⟩ : BufTy).Contents (Elt F) → (⟨S8x20000, .f32⟩ : BufTy).Contents (Elt F)),
    unary main_v104 main_v124 ((extractStridedSlice S8x20000x1 ![0, 0, 3] · slices_S8x20000x4_S8x20000x1_0_0_3) : (⟨S8x20000x4, .f32⟩ : BufTy).Contents (Elt F) → (⟨S8x20000x1, .f32⟩ : BufTy).Contents (Elt F)),
    reshape main_v124 main_v125 (rfl : (.f32 : EltTy) = .f32) shapeCasts_S8x20000x1_S8x20000,
    unary main_v104 main_v126 ((extractStridedSlice S8x20000x1 ![0, 0, 1] · slices_S8x20000x4_S8x20000x1_0_0_1) : (⟨S8x20000x4, .f32⟩ : BufTy).Contents (Elt F) → (⟨S8x20000x1, .f32⟩ : BufTy).Contents (Elt F)),
    reshape main_v126 main_v127 (rfl : (.f32 : EltTy) = .f32) shapeCasts_S8x20000x1_S8x20000,
    binary main_v125 main_v127 main_v128 (subf : (⟨S8x20000, .f32⟩ : BufTy).Contents (Elt F) → (⟨S8x20000, .f32⟩ : BufTy).Contents (Elt F) → (⟨S8x20000, .f32⟩ : BufTy).Contents (Elt F)),
    unary main_v111 main_v129 (broadcastInDim S8x20000x1 ![0, 1] bcast_S8x20000_S8x20000x1_0_1 : (⟨S8x20000, .f32⟩ : BufTy).Contents (Elt F) → (⟨S8x20000x1, .f32⟩ : BufTy).Contents (Elt F)),
    unary main_v118 main_v130 (broadcastInDim S8x20000x1 ![0, 1] bcast_S8x20000_S8x20000x1_0_1 : (⟨S8x20000, .f32⟩ : BufTy).Contents (Elt F) → (⟨S8x20000x1, .f32⟩ : BufTy).Contents (Elt F)),
    unary main_v123 main_v131 (broadcastInDim S8x20000x1 ![0, 1] bcast_S8x20000_S8x20000x1_0_1 : (⟨S8x20000, .f32⟩ : BufTy).Contents (Elt F) → (⟨S8x20000x1, .f32⟩ : BufTy).Contents (Elt F)),
    unary main_v128 main_v132 (broadcastInDim S8x20000x1 ![0, 1] bcast_S8x20000_S8x20000x1_0_1 : (⟨S8x20000, .f32⟩ : BufTy).Contents (Elt F) → (⟨S8x20000x1, .f32⟩ : BufTy).Contents (Elt F)),
    nary ![main_v129, main_v130, main_v131, main_v132] main_v133 (fun u => (concatenate S8x20000x4 2 [⟨S8x20000x1, (u 0 : (⟨S8x20000x1, .f32⟩ : BufTy).Contents (Elt F))⟩, ⟨S8x20000x1, (u 1 : (⟨S8x20000x1, .f32⟩ : BufTy).Contents (Elt F))⟩, ⟨S8x20000x1, (u 2 : (⟨S8x20000x1, .f32⟩ : BufTy).Contents (Elt F))⟩, ⟨S8x20000x1, (u 3 : (⟨S8x20000x1, .f32⟩ : BufTy).Contents (Elt F))⟩] concatenates_S8x20000x1_S8x20000x1_S8x20000x1_S8x20000x1_S8x20000x4_d2 : (⟨S8x20000x4, .f32⟩ : BufTy).Contents (Elt F))),
    unary main_arg1 main_v134 ((extractStridedSlice S8x20000x1 ![0, 0, 0] · slices_S8x20000x4_S8x20000x1_0_0_0) : (⟨S8x20000x4, .f32⟩ : BufTy).Contents (Elt F) → (⟨S8x20000x1, .f32⟩ : BufTy).Contents (Elt F)),
    reshape main_v134 main_v135 (rfl : (.f32 : EltTy) = .f32) shapeCasts_S8x20000x1_S8x20000,
    unary main_arg1 main_v136 ((extractStridedSlice S8x20000x1 ![0, 0, 2] · slices_S8x20000x4_S8x20000x1_0_0_2) : (⟨S8x20000x4, .f32⟩ : BufTy).Contents (Elt F) → (⟨S8x20000x1, .f32⟩ : BufTy).Contents (Elt F)),
    reshape main_v136 main_v137 (rfl : (.f32 : EltTy) = .f32) shapeCasts_S8x20000x1_S8x20000,
    binary main_v135 main_v137 main_v138 (addf : (⟨S8x20000, .f32⟩ : BufTy).Contents (Elt F) → (⟨S8x20000, .f32⟩ : BufTy).Contents (Elt F) → (⟨S8x20000, .f32⟩ : BufTy).Contents (Elt F)),
    nullary main_cst_20 (constant S_ .f32 0x3F000000#32),
    unary main_cst_20 main_v139 (broadcastInDim S8x20000 ![] bcast_S_S8x20000 : (⟨S_, .f32⟩ : BufTy).Contents (Elt F) → (⟨S8x20000, .f32⟩ : BufTy).Contents (Elt F)),
    binary main_v138 main_v139 main_v140 (mulf : (⟨S8x20000, .f32⟩ : BufTy).Contents (Elt F) → (⟨S8x20000, .f32⟩ : BufTy).Contents (Elt F) → (⟨S8x20000, .f32⟩ : BufTy).Contents (Elt F)),
    unary main_arg1 main_v141 ((extractStridedSlice S8x20000x1 ![0, 0, 1] · slices_S8x20000x4_S8x20000x1_0_0_1) : (⟨S8x20000x4, .f32⟩ : BufTy).Contents (Elt F) → (⟨S8x20000x1, .f32⟩ : BufTy).Contents (Elt F)),
    reshape main_v141 main_v142 (rfl : (.f32 : EltTy) = .f32) shapeCasts_S8x20000x1_S8x20000,
    unary main_arg1 main_v143 ((extractStridedSlice S8x20000x1 ![0, 0, 3] · slices_S8x20000x4_S8x20000x1_0_0_3) : (⟨S8x20000x4, .f32⟩ : BufTy).Contents (Elt F) → (⟨S8x20000x1, .f32⟩ : BufTy).Contents (Elt F)),
    reshape main_v143 main_v144 (rfl : (.f32 : EltTy) = .f32) shapeCasts_S8x20000x1_S8x20000,
    binary main_v142 main_v144 main_v145 (addf : (⟨S8x20000, .f32⟩ : BufTy).Contents (Elt F) → (⟨S8x20000, .f32⟩ : BufTy).Contents (Elt F) → (⟨S8x20000, .f32⟩ : BufTy).Contents (Elt F)),
    nullary main_cst_21 (constant S_ .f32 0x3F000000#32),
    unary main_cst_21 main_v146 (broadcastInDim S8x20000 ![] bcast_S_S8x20000 : (⟨S_, .f32⟩ : BufTy).Contents (Elt F) → (⟨S8x20000, .f32⟩ : BufTy).Contents (Elt F)),
    binary main_v145 main_v146 main_v147 (mulf : (⟨S8x20000, .f32⟩ : BufTy).Contents (Elt F) → (⟨S8x20000, .f32⟩ : BufTy).Contents (Elt F) → (⟨S8x20000, .f32⟩ : BufTy).Contents (Elt F)),
    unary main_arg1 main_v148 ((extractStridedSlice S8x20000x1 ![0, 0, 2] · slices_S8x20000x4_S8x20000x1_0_0_2) : (⟨S8x20000x4, .f32⟩ : BufTy).Contents (Elt F) → (⟨S8x20000x1, .f32⟩ : BufTy).Contents (Elt F)),
    reshape main_v148 main_v149 (rfl : (.f32 : EltTy) = .f32) shapeCasts_S8x20000x1_S8x20000,
    unary main_arg1 main_v150 ((extractStridedSlice S8x20000x1 ![0, 0, 0] · slices_S8x20000x4_S8x20000x1_0_0_0) : (⟨S8x20000x4, .f32⟩ : BufTy).Contents (Elt F) → (⟨S8x20000x1, .f32⟩ : BufTy).Contents (Elt F)),
    reshape main_v150 main_v151 (rfl : (.f32 : EltTy) = .f32) shapeCasts_S8x20000x1_S8x20000,
    binary main_v149 main_v151 main_v152 (subf : (⟨S8x20000, .f32⟩ : BufTy).Contents (Elt F) → (⟨S8x20000, .f32⟩ : BufTy).Contents (Elt F) → (⟨S8x20000, .f32⟩ : BufTy).Contents (Elt F)),
    unary main_arg1 main_v153 ((extractStridedSlice S8x20000x1 ![0, 0, 3] · slices_S8x20000x4_S8x20000x1_0_0_3) : (⟨S8x20000x4, .f32⟩ : BufTy).Contents (Elt F) → (⟨S8x20000x1, .f32⟩ : BufTy).Contents (Elt F)),
    reshape main_v153 main_v154 (rfl : (.f32 : EltTy) = .f32) shapeCasts_S8x20000x1_S8x20000,
    unary main_arg1 main_v155 ((extractStridedSlice S8x20000x1 ![0, 0, 1] · slices_S8x20000x4_S8x20000x1_0_0_1) : (⟨S8x20000x4, .f32⟩ : BufTy).Contents (Elt F) → (⟨S8x20000x1, .f32⟩ : BufTy).Contents (Elt F)) ]

/-- Operations: the offsets. -/
abbrev opsOff : List (HloOp τ sig (Elt F)) :=
  [ reshape main_v155 main_v156 (rfl : (.f32 : EltTy) = .f32) shapeCasts_S8x20000x1_S8x20000,
    binary main_v154 main_v156 main_v157 (subf : (⟨S8x20000, .f32⟩ : BufTy).Contents (Elt F) → (⟨S8x20000, .f32⟩ : BufTy).Contents (Elt F) → (⟨S8x20000, .f32⟩ : BufTy).Contents (Elt F)),
    unary main_v140 main_v158 (broadcastInDim S8x20000x1 ![0, 1] bcast_S8x20000_S8x20000x1_0_1 : (⟨S8x20000, .f32⟩ : BufTy).Contents (Elt F) → (⟨S8x20000x1, .f32⟩ : BufTy).Contents (Elt F)),
    unary main_v147 main_v159 (broadcastInDim S8x20000x1 ![0, 1] bcast_S8x20000_S8x20000x1_0_1 : (⟨S8x20000, .f32⟩ : BufTy).Contents (Elt F) → (⟨S8x20000x1, .f32⟩ : BufTy).Contents (Elt F)),
    unary main_v152 main_v160 (broadcastInDim S8x20000x1 ![0, 1] bcast_S8x20000_S8x20000x1_0_1 : (⟨S8x20000, .f32⟩ : BufTy).Contents (Elt F) → (⟨S8x20000x1, .f32⟩ : BufTy).Contents (Elt F)),
    unary main_v157 main_v161 (broadcastInDim S8x20000x1 ![0, 1] bcast_S8x20000_S8x20000x1_0_1 : (⟨S8x20000, .f32⟩ : BufTy).Contents (Elt F) → (⟨S8x20000x1, .f32⟩ : BufTy).Contents (Elt F)),
    nary ![main_v158, main_v159, main_v160, main_v161] main_v162 (fun u => (concatenate S8x20000x4 2 [⟨S8x20000x1, (u 0 : (⟨S8x20000x1, .f32⟩ : BufTy).Contents (Elt F))⟩, ⟨S8x20000x1, (u 1 : (⟨S8x20000x1, .f32⟩ : BufTy).Contents (Elt F))⟩, ⟨S8x20000x1, (u 2 : (⟨S8x20000x1, .f32⟩ : BufTy).Contents (Elt F))⟩, ⟨S8x20000x1, (u 3 : (⟨S8x20000x1, .f32⟩ : BufTy).Contents (Elt F))⟩] concatenates_S8x20000x1_S8x20000x1_S8x20000x1_S8x20000x1_S8x20000x4_d2 : (⟨S8x20000x4, .f32⟩ : BufTy).Contents (Elt F))),
    unary main_v133 main_v163 ((extractStridedSlice S8x20000x1 ![0, 0, 0] · slices_S8x20000x4_S8x20000x1_0_0_0) : (⟨S8x20000x4, .f32⟩ : BufTy).Contents (Elt F) → (⟨S8x20000x1, .f32⟩ : BufTy).Contents (Elt F)),
    reshape main_v163 main_v164 (rfl : (.f32 : EltTy) = .f32) shapeCasts_S8x20000x1_S8x20000,
    unary main_v162 main_v165 ((extractStridedSlice S8x20000x1 ![0, 0, 0] · slices_S8x20000x4_S8x20000x1_0_0_0) : (⟨S8x20000x4, .f32⟩ : BufTy).Contents (Elt F) → (⟨S8x20000x1, .f32⟩ : BufTy).Contents (Elt F)),
    reshape main_v165 main_v166 (rfl : (.f32 : EltTy) = .f32) shapeCasts_S8x20000x1_S8x20000,
    binary main_v164 main_v166 main_v167 (subf : (⟨S8x20000, .f32⟩ : BufTy).Contents (Elt F) → (⟨S8x20000, .f32⟩ : BufTy).Contents (Elt F) → (⟨S8x20000, .f32⟩ : BufTy).Contents (Elt F)),
    unary main_v162 main_v168 ((extractStridedSlice S8x20000x1 ![0, 0, 2] · slices_S8x20000x4_S8x20000x1_0_0_2) : (⟨S8x20000x4, .f32⟩ : BufTy).Contents (Elt F) → (⟨S8x20000x1, .f32⟩ : BufTy).Contents (Elt F)),
    reshape main_v168 main_v169 (rfl : (.f32 : EltTy) = .f32) shapeCasts_S8x20000x1_S8x20000,
    binary main_v167 main_v169 main_v170 (Host.divf : (⟨S8x20000, .f32⟩ : BufTy).Contents (Elt F) → (⟨S8x20000, .f32⟩ : BufTy).Contents (Elt F) → (⟨S8x20000, .f32⟩ : BufTy).Contents (Elt F)),
    unary main_v133 main_v171 ((extractStridedSlice S8x20000x1 ![0, 0, 1] · slices_S8x20000x4_S8x20000x1_0_0_1) : (⟨S8x20000x4, .f32⟩ : BufTy).Contents (Elt F) → (⟨S8x20000x1, .f32⟩ : BufTy).Contents (Elt F)),
    reshape main_v171 main_v172 (rfl : (.f32 : EltTy) = .f32) shapeCasts_S8x20000x1_S8x20000,
    unary main_v162 main_v173 ((extractStridedSlice S8x20000x1 ![0, 0, 1] · slices_S8x20000x4_S8x20000x1_0_0_1) : (⟨S8x20000x4, .f32⟩ : BufTy).Contents (Elt F) → (⟨S8x20000x1, .f32⟩ : BufTy).Contents (Elt F)),
    reshape main_v173 main_v174 (rfl : (.f32 : EltTy) = .f32) shapeCasts_S8x20000x1_S8x20000,
    binary main_v172 main_v174 main_v175 (subf : (⟨S8x20000, .f32⟩ : BufTy).Contents (Elt F) → (⟨S8x20000, .f32⟩ : BufTy).Contents (Elt F) → (⟨S8x20000, .f32⟩ : BufTy).Contents (Elt F)),
    unary main_v162 main_v176 ((extractStridedSlice S8x20000x1 ![0, 0, 3] · slices_S8x20000x4_S8x20000x1_0_0_3) : (⟨S8x20000x4, .f32⟩ : BufTy).Contents (Elt F) → (⟨S8x20000x1, .f32⟩ : BufTy).Contents (Elt F)),
    reshape main_v176 main_v177 (rfl : (.f32 : EltTy) = .f32) shapeCasts_S8x20000x1_S8x20000,
    binary main_v175 main_v177 main_v178 (Host.divf : (⟨S8x20000, .f32⟩ : BufTy).Contents (Elt F) → (⟨S8x20000, .f32⟩ : BufTy).Contents (Elt F) → (⟨S8x20000, .f32⟩ : BufTy).Contents (Elt F)),
    unary main_v133 main_v179 ((extractStridedSlice S8x20000x1 ![0, 0, 2] · slices_S8x20000x4_S8x20000x1_0_0_2) : (⟨S8x20000x4, .f32⟩ : BufTy).Contents (Elt F) → (⟨S8x20000x1, .f32⟩ : BufTy).Contents (Elt F)),
    reshape main_v179 main_v180 (rfl : (.f32 : EltTy) = .f32) shapeCasts_S8x20000x1_S8x20000,
    unary main_v162 main_v181 ((extractStridedSlice S8x20000x1 ![0, 0, 2] · slices_S8x20000x4_S8x20000x1_0_0_2) : (⟨S8x20000x4, .f32⟩ : BufTy).Contents (Elt F) → (⟨S8x20000x1, .f32⟩ : BufTy).Contents (Elt F)),
    reshape main_v181 main_v182 (rfl : (.f32 : EltTy) = .f32) shapeCasts_S8x20000x1_S8x20000,
    binary main_v180 main_v182 main_v183 (Host.divf : (⟨S8x20000, .f32⟩ : BufTy).Contents (Elt F) → (⟨S8x20000, .f32⟩ : BufTy).Contents (Elt F) → (⟨S8x20000, .f32⟩ : BufTy).Contents (Elt F)),
    unary main_v183 main_v184 (Host.log : (⟨S8x20000, .f32⟩ : BufTy).Contents (Elt F) → (⟨S8x20000, .f32⟩ : BufTy).Contents (Elt F)),
    unary main_v133 main_v185 ((extractStridedSlice S8x20000x1 ![0, 0, 3] · slices_S8x20000x4_S8x20000x1_0_0_3) : (⟨S8x20000x4, .f32⟩ : BufTy).Contents (Elt F) → (⟨S8x20000x1, .f32⟩ : BufTy).Contents (Elt F)),
    reshape main_v185 main_v186 (rfl : (.f32 : EltTy) = .f32) shapeCasts_S8x20000x1_S8x20000,
    unary main_v162 main_v187 ((extractStridedSlice S8x20000x1 ![0, 0, 3] · slices_S8x20000x4_S8x20000x1_0_0_3) : (⟨S8x20000x4, .f32⟩ : BufTy).Contents (Elt F) → (⟨S8x20000x1, .f32⟩ : BufTy).Contents (Elt F)),
    reshape main_v187 main_v188 (rfl : (.f32 : EltTy) = .f32) shapeCasts_S8x20000x1_S8x20000,
    binary main_v186 main_v188 main_v189 (Host.divf : (⟨S8x20000, .f32⟩ : BufTy).Contents (Elt F) → (⟨S8x20000, .f32⟩ : BufTy).Contents (Elt F) → (⟨S8x20000, .f32⟩ : BufTy).Contents (Elt F)),
    unary main_v189 main_v190 (Host.log : (⟨S8x20000, .f32⟩ : BufTy).Contents (Elt F) → (⟨S8x20000, .f32⟩ : BufTy).Contents (Elt F)),
    unary main_v170 main_v191 (broadcastInDim S8x20000x1 ![0, 1] bcast_S8x20000_S8x20000x1_0_1 : (⟨S8x20000, .f32⟩ : BufTy).Contents (Elt F) → (⟨S8x20000x1, .f32⟩ : BufTy).Contents (Elt F)),
    unary main_v178 main_v192 (broadcastInDim S8x20000x1 ![0, 1] bcast_S8x20000_S8x20000x1_0_1 : (⟨S8x20000, .f32⟩ : BufTy).Contents (Elt F) → (⟨S8x20000x1, .f32⟩ : BufTy).Contents (Elt F)),
    unary main_v184 main_v193 (broadcastInDim S8x20000x1 ![0, 1] bcast_S8x20000_S8x20000x1_0_1 : (⟨S8x20000, .f32⟩ : BufTy).Contents (Elt F) → (⟨S8x20000x1, .f32⟩ : BufTy).Contents (Elt F)),
    unary main_v190 main_v194 (broadcastInDim S8x20000x1 ![0, 1] bcast_S8x20000_S8x20000x1_0_1 : (⟨S8x20000, .f32⟩ : BufTy).Contents (Elt F) → (⟨S8x20000x1, .f32⟩ : BufTy).Contents (Elt F)),
    nary ![main_v191, main_v192, main_v193, main_v194] main_v195 (fun u => (concatenate S8x20000x4 2 [⟨S8x20000x1, (u 0 : (⟨S8x20000x1, .f32⟩ : BufTy).Contents (Elt F))⟩, ⟨S8x20000x1, (u 1 : (⟨S8x20000x1, .f32⟩ : BufTy).Contents (Elt F))⟩, ⟨S8x20000x1, (u 2 : (⟨S8x20000x1, .f32⟩ : BufTy).Contents (Elt F))⟩, ⟨S8x20000x1, (u 3 : (⟨S8x20000x1, .f32⟩ : BufTy).Contents (Elt F))⟩] concatenates_S8x20000x1_S8x20000x1_S8x20000x1_S8x20000x1_S8x20000x4_d2 : (⟨S8x20000x4, .f32⟩ : BufTy).Contents (Elt F))) ]

/-- All the operations. -/
abbrev ops : List (HloOp τ sig (Elt F)) :=
  (opsIou ++ opsBest) ++ ((opsLabel ++ opsRemove) ++ ((opsTake ++ opsCentre) ++ opsOff))

/-- The first part of `main` is the sequence of its operations. -/
theorem part0_eq (c : Dev nD) : main_part0 (F := F) c = seq (opsIou ++ opsBest) := by
  simp only [main_part0, fn_clip.body, fn_argmax.body, List.cons_append, List.nil_append, seq, bind_assoc, pure_bind]
  rfl

/-- The second part of `main` is the sequence of its operations. -/
theorem part1_eq (c : Dev nD) : main_part1 (F := F) c = seq (opsLabel ++ opsRemove) := by
  simp only [main_part1, fn_where.body, fn_where_0.body, fn_cumsum.body, fn_cumsum_1.body, List.cons_append, List.nil_append, seq,
    bind_assoc, pure_bind]
  rfl

/-- The third part of `main` is the sequence of its operations. -/
theorem part2_eq (c : Dev nD) : main_part2 (F := F) c = seq (opsTake ++ opsCentre) := by
  simp only [main_part2, fn_where_0.body, fn_take.body, fn_where_2.body, List.cons_append, List.nil_append, seq, bind_assoc, pure_bind]
  rfl

/-- The last part of `main` is the sequence of its operations. -/
theorem part3_eq (c : Dev nD) : main_part3 (F := F) c = seq opsOff := by
  simp only [main_part3, seq, bind_assoc, pure_bind]

/-- `main` is the sequence of its operations. -/
theorem main_eq (c : Dev nD) : main (F := F) c = seq ops := by
  rw [ops, seq_append (opsIou ++ opsBest), seq_append (opsLabel ++ opsRemove), seq_append (opsTake ++ opsCentre), ← part0_eq c, ← part1_eq c, ← part2_eq c, ← part3_eq c]
  rfl

theorem scopedRefs_eq : (Finset.univ.filter fun b : Ref sig .tc => b.isScoped) = ∅ := by decide
theorem scopedSems_eq : (Finset.univ.filter fun sm : SemLoc sig => sm.isScoped .tc) = ∅ := by decide

/-! Every operation touches TensorCore buffers only, and determines its result. -/

theorem opsIou_sub : (opsIou : List (HloOp τ sig (Elt F))).Forall fun op => op.bufs ⊆ tcRefs τ sig :=
  ⟨unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., unary_bufs_sub .., unary_bufs_sub .., unary_bufs_sub .., unary_bufs_sub .., unary_bufs_sub .., binary_bufs_sub .., unary_bufs_sub .., unary_bufs_sub .., unary_bufs_sub .., unary_bufs_sub .., unary_bufs_sub .., unary_bufs_sub .., binary_bufs_sub .., binary_bufs_sub .., nullary_bufs_sub .., unary_bufs_sub .., unary_bufs_sub .., binary_bufs_sub .., unary_bufs_sub .., reshape_bufs_sub .., unary_bufs_sub .., reshape_bufs_sub .., binary_bufs_sub .., unary_bufs_sub .., unary_bufs_sub .., unary_bufs_sub .., unary_bufs_sub .., binary_bufs_sub .., binary_bufs_sub .., nullary_bufs_sub .., unary_bufs_sub .., binary_bufs_sub .., binary_bufs_sub ..⟩

theorem opsIou_fresh : (opsIou : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsBest_sub : (opsBest : List (HloOp τ sig (Elt F))).Forall fun op => op.bufs ⊆ tcRefs τ sig :=
  ⟨nullary_bufs_sub .., binary_bufs_sub .., nullary_bufs_sub .., nullary_bufs_sub .., nullary_bufs_sub .., quaternary_bufs_sub .., quaternary_bufs_sub .., nullary_bufs_sub .., unary_bufs_sub .., nullary_bufs_sub ..⟩

theorem opsBest_fresh : (opsBest : List (HloOp τ sig (Elt F))).Forall fun op => op.fresh = ∅ :=
  ⟨rfl, rfl, rfl, rfl, rfl, rfl, rfl, rfl, rfl, rfl⟩

theorem opsLabel_sub : (opsLabel : List (HloOp τ sig (Elt F))).Forall fun op => op.bufs ⊆ tcRefs τ sig :=
  ⟨unary_bufs_sub .., binary_bufs_sub .., nullary_bufs_sub .., unary_bufs_sub .., unary_bufs_sub .., unary_bufs_sub .., unary_bufs_sub .., ternary_bufs_sub .., nullary_bufs_sub .., unary_bufs_sub .., binary_bufs_sub .., nullary_bufs_sub .., unary_bufs_sub .., unary_bufs_sub .., unary_bufs_sub .., ternary_bufs_sub .., nullary_bufs_sub .., binary_bufs_sub .., unary_bufs_sub .., unary_bufs_sub .., binary_bufs_sub .., unary_bufs_sub .., nullary_bufs_sub .., unary_bufs_sub .., binary_bufs_sub .., unary_bufs_sub .., binary_bufs_sub .., nullary_bufs_sub .., binary_bufs_sub .., nullary_bufs_sub .., unary_bufs_sub .., unary_bufs_sub .., unary_bufs_sub .., ternary_bufs_sub ..⟩

theorem opsLabel_fresh : (opsLabel : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsRemove_sub : (opsRemove : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., binary_bufs_sub .., nullary_bufs_sub .., unary_bufs_sub .., binary_bufs_sub .., unary_bufs_sub .., nullary_bufs_sub .., binary_bufs_sub .., nullary_bufs_sub .., unary_bufs_sub .., binary_bufs_sub .., binary_bufs_sub .., unary_bufs_sub .., nullary_bufs_sub .., unary_bufs_sub .., binary_bufs_sub .., unary_bufs_sub .., unary_bufs_sub .., binary_bufs_sub .., binary_bufs_sub .., unary_bufs_sub .., nullary_bufs_sub .., unary_bufs_sub .., binary_bufs_sub .., unary_bufs_sub .., unary_bufs_sub .., binary_bufs_sub .., binary_bufs_sub .., unary_bufs_sub .., binary_bufs_sub .., unary_bufs_sub .., binary_bufs_sub .., binary_bufs_sub ..⟩

theorem opsRemove_fresh : (opsRemove : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsTake_sub : (opsTake : List (HloOp τ sig (Elt F))).Forall fun op => op.bufs ⊆ tcRefs τ sig :=
  ⟨nullary_bufs_sub .., unary_bufs_sub .., unary_bufs_sub .., unary_bufs_sub .., ternary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem opsTake_fresh : (opsTake : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsCentre_sub : (opsCentre : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., binary_bufs_sub .., unary_bufs_sub .., reshape_bufs_sub .., unary_bufs_sub .., reshape_bufs_sub .., binary_bufs_sub .., nullary_bufs_sub .., unary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., unary_bufs_sub .., unary_bufs_sub .., unary_bufs_sub .., nary_bufs_sub .., unary_bufs_sub .., reshape_bufs_sub .., unary_bufs_sub .., reshape_bufs_sub .., binary_bufs_sub .., nullary_bufs_sub .., unary_bufs_sub .., binary_bufs_sub .., unary_bufs_sub .., reshape_bufs_sub .., unary_bufs_sub .., reshape_bufs_sub .., binary_bufs_sub .., nullary_bufs_sub .., unary_bufs_sub .., binary_bufs_sub .., unary_bufs_sub .., reshape_bufs_sub .., unary_bufs_sub .., reshape_bufs_sub .., binary_bufs_sub .., unary_bufs_sub .., reshape_bufs_sub .., unary_bufs_sub ..⟩

theorem opsCentre_fresh : (opsCentre : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsOff_sub : (opsOff : List (HloOp τ sig (Elt F))).Forall fun op => op.bufs ⊆ tcRefs τ sig :=
  ⟨reshape_bufs_sub .., binary_bufs_sub .., unary_bufs_sub .., unary_bufs_sub .., unary_bufs_sub .., unary_bufs_sub .., nary_bufs_sub .., unary_bufs_sub .., reshape_bufs_sub .., unary_bufs_sub .., reshape_bufs_sub .., binary_bufs_sub .., unary_bufs_sub .., reshape_bufs_sub .., binary_bufs_sub .., unary_bufs_sub .., reshape_bufs_sub .., unary_bufs_sub .., reshape_bufs_sub .., binary_bufs_sub .., unary_bufs_sub .., reshape_bufs_sub .., binary_bufs_sub .., unary_bufs_sub .., reshape_bufs_sub .., unary_bufs_sub .., reshape_bufs_sub .., binary_bufs_sub .., unary_bufs_sub .., unary_bufs_sub .., reshape_bufs_sub .., unary_bufs_sub .., reshape_bufs_sub .., binary_bufs_sub .., unary_bufs_sub .., unary_bufs_sub .., unary_bufs_sub .., unary_bufs_sub .., unary_bufs_sub .., nary_bufs_sub ..⟩

theorem opsOff_fresh : (opsOff : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_sub : (ops : List (HloOp τ sig (Elt F))).Forall fun op => op.bufs ⊆ tcRefs τ sig := by
  simp only [ops, List.forall_append]
  exact ⟨⟨opsIou_sub, opsBest_sub⟩, ⟨opsLabel_sub, opsRemove_sub⟩, ⟨opsTake_sub, opsCentre_sub⟩, opsOff_sub⟩

theorem ops_fresh : (ops : List (HloOp τ sig (Elt F))).Forall fun op => op.fresh = ∅ := by
  simp only [ops, List.forall_append]
  exact ⟨⟨opsIou_fresh, opsBest_fresh⟩, ⟨opsLabel_fresh, opsRemove_fresh⟩, ⟨opsTake_fresh, opsCentre_fresh⟩, opsOff_fresh⟩

/-- Every fair execution of the reference terminates, and leaves every buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.1 ops_fresh)

end Cert.RefRun

end
-- ==== Proof.RefFun.lean ====
/- The reference's values as functions of its arguments, one function for each value that later stretches read: the operations in
order, each named as the program numbers it. -/
module

public import proofs.«01_k».proof.Proof.Gen.ReferenceIdeal
public import Idealize.ShloMosaic.Lib.StableHlo.Run

@[expose] public section

set_option maxRecDepth 16384

noncomputable section

namespace Cert.RefRun

open Idealize.ShloMosaic Idealize.ShloMosaic.TcCoe Idealize.ShloMosaic.StableHlo Idealize.SL.Sem
open Cert.ReferenceIdeal Cert.ReferenceIdeal.Gen

variable {F : FTy → Type} [FloatOps F]

/-- The areas of the anchors. -/
def areaAV (arg1 : FVec F S8x20000x4 .f32) :
    FVec F S8x20000 .f32 :=
  let v0 : FVec F S8x20000x1 .f32 := extractStridedSlice S8x20000x1 ![0, 0, 2] arg1 slices_S8x20000x4_S8x20000x1_0_0_2
  let v1 : FVec F S8x20000 .f32 := shapeCast S8x20000 v0 shapeCasts_S8x20000x1_S8x20000
  let v2 : FVec F S8x20000x1 .f32 := extractStridedSlice S8x20000x1 ![0, 0, 0] arg1 slices_S8x20000x4_S8x20000x1_0_0_0
  let v3 : FVec F S8x20000 .f32 := shapeCast S8x20000 v2 shapeCasts_S8x20000x1_S8x20000
  let v4 : FVec F S8x20000 .f32 := subf v1 v3
  let v5 : FVec F S8x20000x1 .f32 := extractStridedSlice S8x20000x1 ![0, 0, 3] arg1 slices_S8x20000x4_S8x20000x1_0_0_3
  let v6 : FVec F S8x20000 .f32 := shapeCast S8x20000 v5 shapeCasts_S8x20000x1_S8x20000
  let v7 : FVec F S8x20000x1 .f32 := extractStridedSlice S8x20000x1 ![0, 0, 1] arg1 slices_S8x20000x4_S8x20000x1_0_0_1
  let v8 : FVec F S8x20000 .f32 := shapeCast S8x20000 v7 shapeCasts_S8x20000x1_S8x20000
  let v9 : FVec F S8x20000 .f32 := subf v6 v8
  let v10 : FVec F S8x20000 .f32 := mulf v4 v9
  v10

/-- The areas of the boxes. -/
def areaBV (arg2 : FVec F S8x32x4 .f32) :
    FVec F S8x32 .f32 :=
  let v11 : FVec F S8x32x1 .f32 := extractStridedSlice S8x32x1 ![0, 0, 2] arg2 slices_S8x32x4_S8x32x1_0_0_2
  let v12 : FVec F S8x32 .f32 := shapeCast S8x32 v11 shapeCasts_S8x32x1_S8x32
  let v13 : FVec F S8x32x1 .f32 := extractStridedSlice S8x32x1 ![0, 0, 0] arg2 slices_S8x32x4_S8x32x1_0_0_0
  let v14 : FVec F S8x32 .f32 := shapeCast S8x32 v13 shapeCasts_S8x32x1_S8x32
  let v15 : FVec F S8x32 .f32 := subf v12 v14
  let v16 : FVec F S8x32x1 .f32 := extractStridedSlice S8x32x1 ![0, 0, 3] arg2 slices_S8x32x4_S8x32x1_0_0_3
  let v17 : FVec F S8x32 .f32 := shapeCast S8x32 v16 shapeCasts_S8x32x1_S8x32
  let v18 : FVec F S8x32x1 .f32 := extractStridedSlice S8x32x1 ![0, 0, 1] arg2 slices_S8x32x4_S8x32x1_0_0_1
  let v19 : FVec F S8x32 .f32 := shapeCast S8x32 v18 shapeCasts_S8x32x1_S8x32
  let v20 : FVec F S8x32 .f32 := subf v17 v19
  let v21 : FVec F S8x32 .f32 := mulf v15 v20
  v21

/-- The area of the intersection of every anchor with every box. -/
def interV (arg1 : FVec F S8x20000x4 .f32) (arg2 : FVec F S8x32x4 .f32) :
    FVec F S8x20000x32 .f32 :=
  let v22 : FVec F S8x20000x2 .f32 := extractStridedSlice S8x20000x2 ![0, 0, 0] arg1 slices_S8x20000x4_S8x20000x2_0_0_0
  let v23 : FVec F S8x20000x1x2 .f32 := broadcastInDim S8x20000x1x2 ![0, 1, 3] bcast_S8x20000x2_S8x20000x1x2_0_1_3 v22
  let v24 : FVec F S8x32x2 .f32 := extractStridedSlice S8x32x2 ![0, 0, 0] arg2 slices_S8x32x4_S8x32x2_0_0_0
  let v25 : FVec F S8x1x32x2 .f32 := broadcastInDim S8x1x32x2 ![0, 2, 3] bcast_S8x32x2_S8x1x32x2_0_2_3 v24
  let v26 : FVec F S8x20000x32x2 .f32 := broadcastInDim S8x20000x32x2 ![0, 1, 2, 3] bcast_S8x20000x1x2_S8x20000x32x2_0_1_2_3 v23
  let v27 : FVec F S8x20000x32x2 .f32 := broadcastInDim S8x20000x32x2 ![0, 1, 2, 3] bcast_S8x1x32x2_S8x20000x32x2_0_1_2_3 v25
  let v28 : FVec F S8x20000x32x2 .f32 := maximumf v26 v27
  let v29 : FVec F S8x20000x2 .f32 := extractStridedSlice S8x20000x2 ![0, 0, 2] arg1 slices_S8x20000x4_S8x20000x2_0_0_2
  let v30 : FVec F S8x20000x1x2 .f32 := broadcastInDim S8x20000x1x2 ![0, 1, 3] bcast_S8x20000x2_S8x20000x1x2_0_1_3 v29
  let v31 : FVec F S8x32x2 .f32 := extractStridedSlice S8x32x2 ![0, 0, 2] arg2 slices_S8x32x4_S8x32x2_0_0_2
  let v32 : FVec F S8x1x32x2 .f32 := broadcastInDim S8x1x32x2 ![0, 2, 3] bcast_S8x32x2_S8x1x32x2_0_2_3 v31
  let v33 : FVec F S8x20000x32x2 .f32 := broadcastInDim S8x20000x32x2 ![0, 1, 2, 3] bcast_S8x20000x1x2_S8x20000x32x2_0_1_2_3 v30
  let v34 : FVec F S8x20000x32x2 .f32 := broadcastInDim S8x20000x32x2 ![0, 1, 2, 3] bcast_S8x1x32x2_S8x20000x32x2_0_1_2_3 v32
  let v35 : FVec F S8x20000x32x2 .f32 := minimumf v33 v34
  let v36 : FVec F S8x20000x32x2 .f32 := subf v35 v28
  let cst : FVec F S_ .f32 := (constant S_ .f32 0x00000000#32)
  let c0_v0 : FVec F S_ .f32 := cst
  let c0_v1 : FVec F S8x20000x32x2 .f32 := broadcastInDim S8x20000x32x2 ![] bcast_S_S8x20000x32x2 c0_v0
  let v37 : FVec F S8x20000x32x2 .f32 := maximumf c0_v1 v36
  let v38 : FVec F S8x20000x32x1 .f32 := extractStridedSlice S8x20000x32x1 ![0, 0, 0, 0] v37 slices_S8x20000x32x2_S8x20000x32x1_0_0_0_0
  let v39 : FVec F S8x20000x32 .f32 := shapeCast S8x20000x32 v38 shapeCasts_S8x20000x32x1_S8x20000x32
  let v40 : FVec F S8x20000x32x1 .f32 := extractStridedSlice S8x20000x32x1 ![0, 0, 0, 1] v37 slices_S8x20000x32x2_S8x20000x32x1_0_0_0_1
  let v41 : FVec F S8x20000x32 .f32 := shapeCast S8x20000x32 v40 shapeCasts_S8x20000x32x1_S8x20000x32
  let v42 : FVec F S8x20000x32 .f32 := mulf v39 v41
  v42

/-- The intersection over union of every anchor with every box, from the areas. -/
def iouV (v10 : FVec F S8x20000 .f32) (v21 : FVec F S8x32 .f32) (v42 : FVec F S8x20000x32 .f32) :
    FVec F S8x20000x32 .f32 :=
  let v43 : FVec F S8x20000x1 .f32 := broadcastInDim S8x20000x1 ![0, 1] bcast_S8x20000_S8x20000x1_0_1 v10
  let v44 : FVec F S8x1x32 .f32 := broadcastInDim S8x1x32 ![0, 2] bcast_S8x32_S8x1x32_0_2 v21
  let v45 : FVec F S8x20000x32 .f32 := broadcastInDim S8x20000x32 ![0, 1, 2] bcast_S8x20000x1_S8x20000x32_0_1_2 v43
  let v46 : FVec F S8x20000x32 .f32 := broadcastInDim S8x20000x32 ![0, 1, 2] bcast_S8x1x32_S8x20000x32_0_1_2 v44
  let v47 : FVec F S8x20000x32 .f32 := addf v45 v46
  let v48 : FVec F S8x20000x32 .f32 := subf v47 v42
  let cst_0 : FVec F S_ .f32 := (constant S_ .f32 0x3089705F#32)
  let v49 : FVec F S8x20000x32 .f32 := broadcastInDim S8x20000x32 ![] bcast_S_S8x20000x32 cst_0
  let v50 : FVec F S8x20000x32 .f32 := maximumf v48 v49
  let v51 : FVec F S8x20000x32 .f32 := Host.divf v42 v50
  v51

/-- The best overlap of each anchor. -/
def bestV (v51 : FVec F S8x20000x32 .f32) :
    FVec F S8x20000 .f32 :=
  let cst_1 : FVec F S_ .f32 := (constant S_ .f32 0xFF800000#32)
  let v52 : FVec F S8x20000 .f32 := Host.reduce FloatOps.maximumf v51 cst_1 reducesTo_S8x20000x32_S8x20000_d2 h_S_
  v52

/-- The box that has it. -/
def argV (v51 : FVec F S8x20000x32 .f32) :
    IVec S8x20000 32 :=
  let c1_v0 : IVec S8x20000x32 32 := (iotaInDim S8x20000x32 32 2)
  let c1_cst : FVec F S_ .f32 := (constant S_ .f32 0xFF800000#32)
  let c1_c : IVec S_ 32 := (constantI S_ 32 0#32)
  let v53 : IVec S8x20000 32 := (fun x y u v j => (Host.argReduce reducer_argmax_f32_i32 x y u v reducesTo_S8x20000x32_S8x20000_d2 h_S_ j).2) v51 c1_v0 c1_cst c1_c
  v53

/-- The label of an anchor before anything is known: minus one. -/
def unmatchedV  :
    IVec S20000 32 :=
  let c : IVec S_ 32 := (constantI S_ 32 4294967295#32)
  let v54 : IVec S20000 32 := broadcastInDim S20000 ![] bcast_S_S20000 c
  v54

/-- The label of each anchor from the best overlap alone, over the label before. -/
def rawV (v52 : FVec F S8x20000 .f32) (v54 : IVec S20000 32) :
    IVec S8x20000 32 :=
  let cst_2 : FVec F S_ .f32 := (constant S_ .f32 0x3E99999A#32)
  let v55 : FVec F S8x20000 .f32 := broadcastInDim S8x20000 ![] bcast_S_S8x20000 cst_2
  let v56 : IVec S8x20000 1 := (cmpf .olt) v52 v55
  let c_3 : IVec S_ 32 := (constantI S_ 32 0#32)
  let c2_v0 : IVec S_ 32 := c_3
  let c2_v1 : IVec S20000 32 := broadcastInDim S20000 ![] bcast_S_S20000 c2_v0
  let c2_v2 : IVec S8x20000 32 := broadcastInDim S8x20000 ![1] bcast_S20000_S8x20000_1 v54
  let c2_v3 : IVec S8x20000 32 := broadcastInDim S8x20000 ![1] bcast_S20000_S8x20000_1 c2_v1
  let v57 : IVec S8x20000 32 := select v56 c2_v3 c2_v2
  let cst_4 : FVec F S_ .f32 := (constant S_ .f32 0x3F333333#32)
  let v58 : FVec F S8x20000 .f32 := broadcastInDim S8x20000 ![] bcast_S_S8x20000 cst_4
  let v59 : IVec S8x20000 1 := (cmpf .oge) v52 v58
  let c_5 : IVec S_ 32 := (constantI S_ 32 1#32)
  let c3_v0 : IVec S_ 32 := c_5
  let c3_v1 : IVec S20000 32 := broadcastInDim S20000 ![] bcast_S_S20000 c3_v0
  let c3_v2 : IVec S8x20000 32 := broadcastInDim S8x20000 ![1] bcast_S20000_S8x20000_1 c3_v1
  let v60 : IVec S8x20000 32 := select v59 c3_v2 v57
  v60

/-- The best overlap of each box. -/
def topV (v51 : FVec F S8x20000x32 .f32) :
    FVec F S8x32 .f32 :=
  let cst_6 : FVec F S_ .f32 := (constant S_ .f32 0xFF800000#32)
  let v61 : FVec F S8x32 .f32 := Host.reduce FloatOps.maximumf v51 cst_6 reducesTo_S8x20000x32_S8x32_d1 h_S_
  v61

/-- Whether an anchor has a box's best overlap, and that one is positive. -/
def tieV (v51 : FVec F S8x20000x32 .f32) (v61 : FVec F S8x32 .f32) :
    IVec S8x20000x32 1 :=
  let v62 : FVec F S8x1x32 .f32 := broadcastInDim S8x1x32 ![0, 2] bcast_S8x32_S8x1x32_0_2 v61
  let v63 : FVec F S8x20000x32 .f32 := broadcastInDim S8x20000x32 ![0, 1, 2] bcast_S8x1x32_S8x20000x32_0_1_2 v62
  let v64 : IVec S8x20000x32 1 := (cmpf .oge) v51 v63
  let v65 : FVec F S8x1x32 .f32 := broadcastInDim S8x1x32 ![0, 2] bcast_S8x32_S8x1x32_0_2 v61
  let cst_7 : FVec F S_ .f32 := (constant S_ .f32 0x00000000#32)
  let v66 : FVec F S8x1x32 .f32 := broadcastInDim S8x1x32 ![] bcast_S_S8x1x32 cst_7
  let v67 : IVec S8x1x32 1 := (cmpf .ogt) v65 v66
  let v68 : IVec S8x20000x32 1 := broadcastInDim S8x20000x32 ![0, 1, 2] bcast_S8x1x32_S8x20000x32_0_1_2 v67
  let v69 : IVec S8x20000x32 1 := andi v64 v68
  v69

/-- The anchors that are some box's best. -/
def forcedV (v69 : IVec S8x20000x32 1) :
    IVec S8x20000 1 :=
  let c_8 : IVec S_ 1 := (constantI S_ 1 0#1)
  let v70 : IVec S8x20000 1 := Host.reduce IntOp.ori v69 c_8 reducesTo_S8x20000x32_S8x20000_d2 h_S_
  v70

/-- One where an anchor is some box's best, and the label so far elsewhere. -/
def forceV (v70 : IVec S8x20000 1) (v60 : IVec S8x20000 32) :
    IVec S8x20000 32 :=
  let c_9 : IVec S_ 32 := (constantI S_ 32 1#32)
  let c4_v0 : IVec S_ 32 := c_9
  let c4_v1 : IVec S20000 32 := broadcastInDim S20000 ![] bcast_S_S20000 c4_v0
  let c4_v2 : IVec S8x20000 32 := broadcastInDim S8x20000 ![1] bcast_S20000_S8x20000_1 c4_v1
  let v71 : IVec S8x20000 32 := select v70 c4_v2 v60
  v71

/-- The label of each anchor, from the overlaps, the best overlap and the label before. -/
def labelV (v51 : FVec F S8x20000x32 .f32) (v52 : FVec F S8x20000 .f32) (v54 : IVec S20000 32) :
    IVec S8x20000 32 :=
  forceV (forcedV (tieV v51 (topV v51))) (rawV v52 v54)

/-- The anchors labelled one. -/
def posV (v71 : IVec S8x20000 32) :
    IVec S8x20000 1 :=
  let c_10 : IVec S_ 32 := (constantI S_ 32 1#32)
  let v72 : IVec S8x20000 32 := broadcastInDim S8x20000 ![] bcast_S_S8x20000 c_10
  let v73 : IVec S8x20000 1 := (cmpi .eq) v71 v72
  v73

/-- The anchors labelled zero. -/
def negV (v71 : IVec S8x20000 32) :
    IVec S8x20000 1 :=
  let c_11 : IVec S_ 32 := (constantI S_ 32 0#32)
  let v74 : IVec S8x20000 32 := broadcastInDim S8x20000 ![] bcast_S_S8x20000 c_11
  let v75 : IVec S8x20000 1 := (cmpi .eq) v71 v74
  v75

/-- How many anchors are marked. -/
def countV (v73 : IVec S8x20000 1) :
    IVec S8 32 :=
  let v76 : IVec S8x20000 32 := extui 32 v73 natLt_1_32
  let c_12 : IVec S_ 32 := (constantI S_ 32 0#32)
  let v77 : IVec S8 32 := Host.reduce IntOp.addi v76 c_12 reducesTo_S8x20000_S8_d1 h_S_
  v77

/-- How many anchors are marked up to each one. -/
def cumV (v73 : IVec S8x20000 1) :
    IVec S8x20000 32 :=
  let v85 : IVec S8x20000 32 := extui 32 v73 natLt_1_32
  let c5_c0_c : IVec S_ 32 := (constantI S_ 32 0#32)
  let c5_c0_v0 : IVec S_ 32 := broadcastInDim S_ ![] bcast_S_S_ c5_c0_c
  let v86 : IVec S8x20000 32 := Host.reduceWindow IntOp.addi ![1, 20000] ![1, 1] ![0, 19999] ![0, 0] v85 c5_c0_v0 reduceWindows_S8x20000_S8x20000_w1s1p0_0_w20000s1p19999_0 h_S_
  v86

/-- How many positives stay. -/
def keepPosV (v77 : IVec S8 32) :
    IVec S8 32 :=
  let c_13 : IVec S_ 32 := (constantI S_ 32 128#32)
  let v78 : IVec S8 32 := broadcastInDim S8 ![] bcast_S_S8 c_13
  let v79 : IVec S8 32 := minsi v77 v78
  v79

/-- How many negatives stay. -/
def keepNegV (v81 : IVec S8 32) (v79 : IVec S8 32) :
    IVec S8 32 :=
  let c_15 : IVec S_ 32 := (constantI S_ 32 256#32)
  let v82 : IVec S8 32 := broadcastInDim S8 ![] bcast_S_S8 c_15
  let v83 : IVec S8 32 := subi v82 v79
  let v84 : IVec S8 32 := minsi v81 v83
  v84

/-- The marked anchors whose count is above what stays. -/
def beyondV (v73 : IVec S8x20000 1) (v86 : IVec S8x20000 32) (v79 : IVec S8 32) :
    IVec S8x20000 1 :=
  let v87 : IVec S8x1 32 := broadcastInDim S8x1 ![0] bcast_S8_S8x1_0 v79
  let v88 : IVec S8x20000 32 := broadcastInDim S8x20000 ![0, 1] bcast_S8x1_S8x20000_0_1 v87
  let v89 : IVec S8x20000 1 := (cmpi .sle) v86 v88
  let v90 : IVec S8x20000 1 := andi v73 v89
  let v97 : IVec S8x20000 1 := noti v90
  let v98 : IVec S8x20000 1 := andi v73 v97
  v98

/-- The anchors that are dropped. -/
def removeV (v71 : IVec S8x20000 32) :
    IVec S8x20000 1 :=
  ori (beyondV (posV v71) (cumV (posV v71)) (keepPosV (countV (posV v71))))
    (beyondV (negV v71) (cumV (negV v71)) (keepNegV (countV (negV v71)) (keepPosV (countV (posV v71)))))

/-- The labels after the drop. -/
def confV (v101 : IVec S8x20000 1) (v71 : IVec S8x20000 32) :
    IVec S8x20000 32 :=
  let c_16 : IVec S_ 32 := (constantI S_ 32 4294967295#32)
  let c7_v0 : IVec S_ 32 := c_16
  let c7_v1 : IVec S20000 32 := broadcastInDim S20000 ![] bcast_S_S20000 c7_v0
  let c7_v2 : IVec S8x20000 32 := broadcastInDim S8x20000 ![1] bcast_S20000_S8x20000_1 c7_v1
  let v102 : IVec S8x20000 32 := select v101 c7_v2 v71
  v102

/-- The matched box after the drop. -/
def boxV (v101 : IVec S8x20000 1) (v53 : IVec S8x20000 32) :
    IVec S8x20000 32 :=
  let c_17 : IVec S_ 32 := (constantI S_ 32 0#32)
  let c8_v0 : IVec S_ 32 := c_17
  let c8_v1 : IVec S20000 32 := broadcastInDim S20000 ![] bcast_S_S20000 c8_v0
  let c8_v2 : IVec S8x20000 32 := broadcastInDim S8x20000 ![1] bcast_S20000_S8x20000_1 c8_v1
  let v103 : IVec S8x20000 32 := select v101 c8_v2 v53
  v103

/-- The coordinates of the matched box. -/
def takeV (arg2 : FVec F S8x32x4 .f32) (v103 : IVec S8x20000 32) :
    FVec F S8x20000x4 .f32 :=
  let c9_c : IVec S_ 32 := (constantI S_ 32 0#32)
  let c9_v0 : IVec S8x20000 32 := broadcastInDim S8x20000 ![] bcast_S_S8x20000 c9_c
  let c9_v1 : IVec S8x20000 1 := (cmpi .slt) v103 c9_v0
  let c9_c_0 : IVec S_ 32 := (constantI S_ 32 32#32)
  let c9_v2 : IVec S8x20000 32 := broadcastInDim S8x20000 ![] bcast_S_S8x20000 c9_c_0
  let c9_v3 : IVec S8x20000 32 := addi v103 c9_v2
  let c9_v4 : IVec S8x20000 32 := select c9_v1 c9_v3 v103
  let c9_v5 : IVec S8x20000x1 32 := broadcastInDim S8x20000x1 ![0, 1] bcast_S8x20000_S8x20000x1_0_1 c9_v4
  let c9_c_1 : IVec S1 32 := (constantI S1 32 31#32)
  let c9_c_2 : IVec S_ 32 := (constantI S_ 32 0#32)
  let c9_v6 : IVec S8x20000x1 32 := broadcastInDim S8x20000x1 ![] bcast_S_S8x20000x1 c9_c_2
  let c9_v7 : IVec S8x20000x1 1 := (cmpi .sge) c9_v5 c9_v6
  let c9_v8 : IVec S1x1x1 32 := broadcastInDim S1x1x1 ![2] bcast_S1_S1x1x1_2 c9_c_1
  let c9_v9 : IVec S8x20000x1 32 := broadcastInDim S8x20000x1 ![0, 1, 2] bcast_S1x1x1_S8x20000x1_0_1_2 c9_v8
  let c9_v10 : IVec S8x20000x1 1 := (cmpi .sle) c9_v5 c9_v9
  let c9_v11 : IVec S8x20000x1 1 := andi c9_v7 c9_v10
  let c9_c_3 : IVec S_ 1 := (constantI S_ 1 1#1)
  let c9_v12 : IVec S8x20000 1 := Host.reduce IntOp.andi c9_v11 c9_c_3 reducesTo_S8x20000x1_S8x20000_d2 h_S_
  let c9_v13 : FVec F S8x20000x4 .f32 := (fun x i => Host.gather gather_S8x32x4_S8x20000x1_S8x20000x4_2_1_0_0_1_2_114 x i) arg2 c9_v5
  let c9_v14 : IVec S8x20000x4 1 := broadcastInDim S8x20000x4 ![0, 1] bcast_S8x20000_S8x20000x4_0_1 c9_v12
  let c9_cst : FVec F S_ .f32 := (constant S_ .f32 0x7FC00000#32)
  let c9_v15 : FVec F S8x20000x4 .f32 := broadcastInDim S8x20000x4 ![] bcast_S_S8x20000x4 c9_cst
  let v104 : FVec F S8x20000x4 .f32 := select c9_v14 c9_v13 c9_v15
  v104

/-- Centres and extents of the matched boxes. -/
def centreV (v104 : FVec F S8x20000x4 .f32) :
    FVec F S8x20000x4 .f32 :=
  let v105 : FVec F S8x20000x1 .f32 := extractStridedSlice S8x20000x1 ![0, 0, 0] v104 slices_S8x20000x4_S8x20000x1_0_0_0
  let v106 : FVec F S8x20000 .f32 := shapeCast S8x20000 v105 shapeCasts_S8x20000x1_S8x20000
  let v107 : FVec F S8x20000x1 .f32 := extractStridedSlice S8x20000x1 ![0, 0, 2] v104 slices_S8x20000x4_S8x20000x1_0_0_2
  let v108 : FVec F S8x20000 .f32 := shapeCast S8x20000 v107 shapeCasts_S8x20000x1_S8x20000
  let v109 : FVec F S8x20000 .f32 := addf v106 v108
  let cst_18 : FVec F S_ .f32 := (constant S_ .f32 0x3F000000#32)
  let v110 : FVec F S8x20000 .f32 := broadcastInDim S8x20000 ![] bcast_S_S8x20000 cst_18
  let v111 : FVec F S8x20000 .f32 := mulf v109 v110
  let v112 : FVec F S8x20000x1 .f32 := extractStridedSlice S8x20000x1 ![0, 0, 1] v104 slices_S8x20000x4_S8x20000x1_0_0_1
  let v113 : FVec F S8x20000 .f32 := shapeCast S8x20000 v112 shapeCasts_S8x20000x1_S8x20000
  let v114 : FVec F S8x20000x1 .f32 := extractStridedSlice S8x20000x1 ![0, 0, 3] v104 slices_S8x20000x4_S8x20000x1_0_0_3
  let v115 : FVec F S8x20000 .f32 := shapeCast S8x20000 v114 shapeCasts_S8x20000x1_S8x20000
  let v116 : FVec F S8x20000 .f32 := addf v113 v115
  let cst_19 : FVec F S_ .f32 := (constant S_ .f32 0x3F000000#32)
  let v117 : FVec F S8x20000 .f32 := broadcastInDim S8x20000 ![] bcast_S_S8x20000 cst_19
  let v118 : FVec F S8x20000 .f32 := mulf v116 v117
  let v119 : FVec F S8x20000x1 .f32 := extractStridedSlice S8x20000x1 ![0, 0, 2] v104 slices_S8x20000x4_S8x20000x1_0_0_2
  let v120 : FVec F S8x20000 .f32 := shapeCast S8x20000 v119 shapeCasts_S8x20000x1_S8x20000
  let v121 : FVec F S8x20000x1 .f32 := extractStridedSlice S8x20000x1 ![0, 0, 0] v104 slices_S8x20000x4_S8x20000x1_0_0_0
  let v122 : FVec F S8x20000 .f32 := shapeCast S8x20000 v121 shapeCasts_S8x20000x1_S8x20000
  let v123 : FVec F S8x20000 .f32 := subf v120 v122
  let v124 : FVec F S8x20000x1 .f32 := extractStridedSlice S8x20000x1 ![0, 0, 3] v104 slices_S8x20000x4_S8x20000x1_0_0_3
  let v125 : FVec F S8x20000 .f32 := shapeCast S8x20000 v124 shapeCasts_S8x20000x1_S8x20000
  let v126 : FVec F S8x20000x1 .f32 := extractStridedSlice S8x20000x1 ![0, 0, 1] v104 slices_S8x20000x4_S8x20000x1_0_0_1
  let v127 : FVec F S8x20000 .f32 := shapeCast S8x20000 v126 shapeCasts_S8x20000x1_S8x20000
  let v128 : FVec F S8x20000 .f32 := subf v125 v127
  let v129 : FVec F S8x20000x1 .f32 := broadcastInDim S8x20000x1 ![0, 1] bcast_S8x20000_S8x20000x1_0_1 v111
  let v130 : FVec F S8x20000x1 .f32 := broadcastInDim S8x20000x1 ![0, 1] bcast_S8x20000_S8x20000x1_0_1 v118
  let v131 : FVec F S8x20000x1 .f32 := broadcastInDim S8x20000x1 ![0, 1] bcast_S8x20000_S8x20000x1_0_1 v123
  let v132 : FVec F S8x20000x1 .f32 := broadcastInDim S8x20000x1 ![0, 1] bcast_S8x20000_S8x20000x1_0_1 v128
  let v133 : FVec F S8x20000x4 .f32 := concatenate S8x20000x4 2 [⟨S8x20000x1, v129⟩, ⟨S8x20000x1, v130⟩, ⟨S8x20000x1, v131⟩, ⟨S8x20000x1, v132⟩] concatenates_S8x20000x1_S8x20000x1_S8x20000x1_S8x20000x1_S8x20000x4_d2
  v133

/-- Centres and extents of the anchors. -/
def anchorV (arg1 : FVec F S8x20000x4 .f32) :
    FVec F S8x20000x4 .f32 :=
  let v134 : FVec F S8x20000x1 .f32 := extractStridedSlice S8x20000x1 ![0, 0, 0] arg1 slices_S8x20000x4_S8x20000x1_0_0_0
  let v135 : FVec F S8x20000 .f32 := shapeCast S8x20000 v134 shapeCasts_S8x20000x1_S8x20000
  let v136 : FVec F S8x20000x1 .f32 := extractStridedSlice S8x20000x1 ![0, 0, 2] arg1 slices_S8x20000x4_S8x20000x1_0_0_2
  let v137 : FVec F S8x20000 .f32 := shapeCast S8x20000 v136 shapeCasts_S8x20000x1_S8x20000
  let v138 : FVec F S8x20000 .f32 := addf v135 v137
  let cst_20 : FVec F S_ .f32 := (constant S_ .f32 0x3F000000#32)
  let v139 : FVec F S8x20000 .f32 := broadcastInDim S8x20000 ![] bcast_S_S8x20000 cst_20
  let v140 : FVec F S8x20000 .f32 := mulf v138 v139
  let v141 : FVec F S8x20000x1 .f32 := extractStridedSlice S8x20000x1 ![0, 0, 1] arg1 slices_S8x20000x4_S8x20000x1_0_0_1
  let v142 : FVec F S8x20000 .f32 := shapeCast S8x20000 v141 shapeCasts_S8x20000x1_S8x20000
  let v143 : FVec F S8x20000x1 .f32 := extractStridedSlice S8x20000x1 ![0, 0, 3] arg1 slices_S8x20000x4_S8x20000x1_0_0_3
  let v144 : FVec F S8x20000 .f32 := shapeCast S8x20000 v143 shapeCasts_S8x20000x1_S8x20000
  let v145 : FVec F S8x20000 .f32 := addf v142 v144
  let cst_21 : FVec F S_ .f32 := (constant S_ .f32 0x3F000000#32)
  let v146 : FVec F S8x20000 .f32 := broadcastInDim S8x20000 ![] bcast_S_S8x20000 cst_21
  let v147 : FVec F S8x20000 .f32 := mulf v145 v146
  let v148 : FVec F S8x20000x1 .f32 := extractStridedSlice S8x20000x1 ![0, 0, 2] arg1 slices_S8x20000x4_S8x20000x1_0_0_2
  let v149 : FVec F S8x20000 .f32 := shapeCast S8x20000 v148 shapeCasts_S8x20000x1_S8x20000
  let v150 : FVec F S8x20000x1 .f32 := extractStridedSlice S8x20000x1 ![0, 0, 0] arg1 slices_S8x20000x4_S8x20000x1_0_0_0
  let v151 : FVec F S8x20000 .f32 := shapeCast S8x20000 v150 shapeCasts_S8x20000x1_S8x20000
  let v152 : FVec F S8x20000 .f32 := subf v149 v151
  let v153 : FVec F S8x20000x1 .f32 := extractStridedSlice S8x20000x1 ![0, 0, 3] arg1 slices_S8x20000x4_S8x20000x1_0_0_3
  let v154 : FVec F S8x20000 .f32 := shapeCast S8x20000 v153 shapeCasts_S8x20000x1_S8x20000
  let v155 : FVec F S8x20000x1 .f32 := extractStridedSlice S8x20000x1 ![0, 0, 1] arg1 slices_S8x20000x4_S8x20000x1_0_0_1
  let v156 : FVec F S8x20000 .f32 := shapeCast S8x20000 v155 shapeCasts_S8x20000x1_S8x20000
  let v157 : FVec F S8x20000 .f32 := subf v154 v156
  let v158 : FVec F S8x20000x1 .f32 := broadcastInDim S8x20000x1 ![0, 1] bcast_S8x20000_S8x20000x1_0_1 v140
  let v159 : FVec F S8x20000x1 .f32 := broadcastInDim S8x20000x1 ![0, 1] bcast_S8x20000_S8x20000x1_0_1 v147
  let v160 : FVec F S8x20000x1 .f32 := broadcastInDim S8x20000x1 ![0, 1] bcast_S8x20000_S8x20000x1_0_1 v152
  let v161 : FVec F S8x20000x1 .f32 := broadcastInDim S8x20000x1 ![0, 1] bcast_S8x20000_S8x20000x1_0_1 v157
  let v162 : FVec F S8x20000x4 .f32 := concatenate S8x20000x4 2 [⟨S8x20000x1, v158⟩, ⟨S8x20000x1, v159⟩, ⟨S8x20000x1, v160⟩, ⟨S8x20000x1, v161⟩] concatenates_S8x20000x1_S8x20000x1_S8x20000x1_S8x20000x1_S8x20000x4_d2
  v162

/-- The offsets of the matched boxes from the anchors. -/
def offV (v133 : FVec F S8x20000x4 .f32) (v162 : FVec F S8x20000x4 .f32) :
    FVec F S8x20000x4 .f32 :=
  let v163 : FVec F S8x20000x1 .f32 := extractStridedSlice S8x20000x1 ![0, 0, 0] v133 slices_S8x20000x4_S8x20000x1_0_0_0
  let v164 : FVec F S8x20000 .f32 := shapeCast S8x20000 v163 shapeCasts_S8x20000x1_S8x20000
  let v165 : FVec F S8x20000x1 .f32 := extractStridedSlice S8x20000x1 ![0, 0, 0] v162 slices_S8x20000x4_S8x20000x1_0_0_0
  let v166 : FVec F S8x20000 .f32 := shapeCast S8x20000 v165 shapeCasts_S8x20000x1_S8x20000
  let v167 : FVec F S8x20000 .f32 := subf v164 v166
  let v168 : FVec F S8x20000x1 .f32 := extractStridedSlice S8x20000x1 ![0, 0, 2] v162 slices_S8x20000x4_S8x20000x1_0_0_2
  let v169 : FVec F S8x20000 .f32 := shapeCast S8x20000 v168 shapeCasts_S8x20000x1_S8x20000
  let v170 : FVec F S8x20000 .f32 := Host.divf v167 v169
  let v171 : FVec F S8x20000x1 .f32 := extractStridedSlice S8x20000x1 ![0, 0, 1] v133 slices_S8x20000x4_S8x20000x1_0_0_1
  let v172 : FVec F S8x20000 .f32 := shapeCast S8x20000 v171 shapeCasts_S8x20000x1_S8x20000
  let v173 : FVec F S8x20000x1 .f32 := extractStridedSlice S8x20000x1 ![0, 0, 1] v162 slices_S8x20000x4_S8x20000x1_0_0_1
  let v174 : FVec F S8x20000 .f32 := shapeCast S8x20000 v173 shapeCasts_S8x20000x1_S8x20000
  let v175 : FVec F S8x20000 .f32 := subf v172 v174
  let v176 : FVec F S8x20000x1 .f32 := extractStridedSlice S8x20000x1 ![0, 0, 3] v162 slices_S8x20000x4_S8x20000x1_0_0_3
  let v177 : FVec F S8x20000 .f32 := shapeCast S8x20000 v176 shapeCasts_S8x20000x1_S8x20000
  let v178 : FVec F S8x20000 .f32 := Host.divf v175 v177
  let v179 : FVec F S8x20000x1 .f32 := extractStridedSlice S8x20000x1 ![0, 0, 2] v133 slices_S8x20000x4_S8x20000x1_0_0_2
  let v180 : FVec F S8x20000 .f32 := shapeCast S8x20000 v179 shapeCasts_S8x20000x1_S8x20000
  let v181 : FVec F S8x20000x1 .f32 := extractStridedSlice S8x20000x1 ![0, 0, 2] v162 slices_S8x20000x4_S8x20000x1_0_0_2
  let v182 : FVec F S8x20000 .f32 := shapeCast S8x20000 v181 shapeCasts_S8x20000x1_S8x20000
  let v183 : FVec F S8x20000 .f32 := Host.divf v180 v182
  let v184 : FVec F S8x20000 .f32 := Host.log v183
  let v185 : FVec F S8x20000x1 .f32 := extractStridedSlice S8x20000x1 ![0, 0, 3] v133 slices_S8x20000x4_S8x20000x1_0_0_3
  let v186 : FVec F S8x20000 .f32 := shapeCast S8x20000 v185 shapeCasts_S8x20000x1_S8x20000
  let v187 : FVec F S8x20000x1 .f32 := extractStridedSlice S8x20000x1 ![0, 0, 3] v162 slices_S8x20000x4_S8x20000x1_0_0_3
  let v188 : FVec F S8x20000 .f32 := shapeCast S8x20000 v187 shapeCasts_S8x20000x1_S8x20000
  let v189 : FVec F S8x20000 .f32 := Host.divf v186 v188
  let v190 : FVec F S8x20000 .f32 := Host.log v189
  let v191 : FVec F S8x20000x1 .f32 := broadcastInDim S8x20000x1 ![0, 1] bcast_S8x20000_S8x20000x1_0_1 v170
  let v192 : FVec F S8x20000x1 .f32 := broadcastInDim S8x20000x1 ![0, 1] bcast_S8x20000_S8x20000x1_0_1 v178
  let v193 : FVec F S8x20000x1 .f32 := broadcastInDim S8x20000x1 ![0, 1] bcast_S8x20000_S8x20000x1_0_1 v184
  let v194 : FVec F S8x20000x1 .f32 := broadcastInDim S8x20000x1 ![0, 1] bcast_S8x20000_S8x20000x1_0_1 v190
  let v195 : FVec F S8x20000x4 .f32 := concatenate S8x20000x4 2 [⟨S8x20000x1, v191⟩, ⟨S8x20000x1, v192⟩, ⟨S8x20000x1, v193⟩, ⟨S8x20000x1, v194⟩] concatenates_S8x20000x1_S8x20000x1_S8x20000x1_S8x20000x1_S8x20000x4_d2
  v195

end Cert.RefRun

end
-- ==== Proof.RefRun.lean ====
/- What the reference's run leaves in its results, as a function of its arguments: each stretch of the operations read at the
buffers that later stretches read, then the stretches composed. -/
module

public import proofs.«01_k».proof.Proof.RefOps
public import proofs.«01_k».proof.Proof.RefFun
public import Idealize.ShloMosaic.Lib.Pipeline.Frame

@[expose] public section

set_option maxRecDepth 200000

noncomputable section

namespace Cert.RefRun

open Idealize.ShloMosaic Idealize.ShloMosaic.TcCoe Idealize.ShloMosaic.StableHlo Idealize.SL.Sem
open Cert.ReferenceIdeal Cert.ReferenceIdeal.Gen

variable {F : FTy → Type} [FloatOps F]

/-- The overlaps, from the arguments. -/
def iouOf (x1 : FVec F S8x20000x4 .f32) (x2 : FVec F S8x32x4 .f32) : FVec F S8x20000x32 .f32 :=
  iouV (areaAV x1) (areaBV x2) (interV x1 x2)

/-- The labels before the drop, from the overlaps. -/
def labelOf (v : FVec F S8x20000x32 .f32) : IVec S8x20000 32 := labelV v (bestV v) unmatchedV

/-- The anchors that are dropped, from the overlaps. -/
def removeOf (v : FVec F S8x20000x32 .f32) : IVec S8x20000 1 := removeV (labelOf v)

/-- The first result, from the arguments. -/
def confOf (x1 : FVec F S8x20000x4 .f32) (x2 : FVec F S8x32x4 .f32) : IVec S8x20000 32 :=
  confV (removeOf (iouOf x1 x2)) (labelOf (iouOf x1 x2))

/-- The matched boxes' coordinates, from the arguments. -/
def takeOf (x1 : FVec F S8x20000x4 .f32) (x2 : FVec F S8x32x4 .f32) : FVec F S8x20000x4 .f32 :=
  takeV x2 (boxV (removeOf (iouOf x1 x2)) (argV (iouOf x1 x2)))

/-- The second result, from the arguments. -/
def offOf (x1 : FVec F S8x20000x4 .f32) (x2 : FVec F S8x32x4 .f32) : FVec F S8x20000x4 .f32 :=
  offV (centreV (takeOf x1 x2)) (anchorV x1)

variable (V : Valuation τ sig (Elt F))

/-! ## The stretches -/

theorem iou_read : after opsIou V (main_v51 : DevRef τ sig)
    = iouOf (V (main_arg1 : DevRef τ sig)) (V (main_arg2 : DevRef τ sig)) := by
  after_results_simp
  rfl

theorem best_read : after opsBest V (main_v52 : DevRef τ sig) = bestV (V (main_v51 : DevRef τ sig)) := by
  after_results_simp
  rfl

theorem arg_read : after opsBest V (main_v53 : DevRef τ sig) = argV (V (main_v51 : DevRef τ sig)) := by
  after_results_simp
  rfl

theorem unmatched_read : after opsBest V (main_v54 : DevRef τ sig) = unmatchedV := by
  after_results_simp
  rfl

theorem threshold_read : after opsBest V (main_cst_2 : DevRef τ sig) = constant (F := F) S_ .f32 0x3E99999A#32 := by
  after_results_simp

theorem label_read (h : V (main_cst_2 : DevRef τ sig) = constant (F := F) S_ .f32 0x3E99999A#32) :
    after opsLabel V (main_v71 : DevRef τ sig)
      = labelV (V (main_v51 : DevRef τ sig)) (V (main_v52 : DevRef τ sig)) (V (main_v54 : DevRef τ sig)) := by
  have e1 : ∀ p q r (v : (⟨S8x20000, .i32⟩ : BufTy).Contents (Elt F)),
      (TRef.of main_v71 p q r : TRef sig ⟨S8x20000, .i32⟩).toBuf (Val := Elt F) v = v := fun _ _ _ _ => rfl
  have e2 : ∀ p q r (v : (⟨S8x20000, .i1⟩ : BufTy).Contents (Elt F)),
      (TRef.of main_v70 p q r : TRef sig ⟨S8x20000, .i1⟩).ofBuf (Val := Elt F) v = v := fun _ _ _ _ => rfl
  have e3 : ∀ p q r (v : (⟨S_, .i32⟩ : BufTy).Contents (Elt F)),
      (TRef.of main_c_9 p q r : TRef sig ⟨S_, .i32⟩).ofBuf (Val := Elt F) v = v := fun _ _ _ _ => rfl
  have e4 : ∀ p q r (v : (⟨S8x20000, .i1⟩ : BufTy).Contents (Elt F)),
      (TRef.of main_v59 p q r : TRef sig ⟨S8x20000, .i1⟩).ofBuf (Val := Elt F) v = v := fun _ _ _ _ => rfl
  have e5 : ∀ p q r (v : (⟨S_, .i32⟩ : BufTy).Contents (Elt F)),
      (TRef.of main_c_5 p q r : TRef sig ⟨S_, .i32⟩).ofBuf (Val := Elt F) v = v := fun _ _ _ _ => rfl
  have e6 : ∀ p q r (v : (⟨S8x20000, .i1⟩ : BufTy).Contents (Elt F)),
      (TRef.of main_v56 p q r : TRef sig ⟨S8x20000, .i1⟩).ofBuf (Val := Elt F) v = v := fun _ _ _ _ => rfl
  have e7 : ∀ p q r (v : (⟨S_, .i32⟩ : BufTy).Contents (Elt F)),
      (TRef.of main_c_3 p q r : TRef sig ⟨S_, .i32⟩).ofBuf (Val := Elt F) v = v := fun _ _ _ _ => rfl
  have e8 : ∀ p q r (v : (⟨S20000, .i32⟩ : BufTy).Contents (Elt F)),
      (TRef.of main_v54 p q r : TRef sig ⟨S20000, .i32⟩).ofBuf (Val := Elt F) v = v := fun _ _ _ _ => rfl
  after_results_simp
  rw [h]
  simp only [TRef.ofBuf_toBuf, e1, e2, e3, e4, e5, e6, e7, e8, id]
  unfold labelV forceV forcedV tieV topV rawV
  with_reducible rfl

theorem remove_read : after opsRemove V (main_v101 : DevRef τ sig) = removeV (V (main_v71 : DevRef τ sig)) := by
  have e1 : ∀ p q r (v : (⟨S8x20000, .i32⟩ : BufTy).Contents (Elt F)),
      (TRef.of main_v85 p q r : TRef sig ⟨S8x20000, .i32⟩).ofBuf (Val := Elt F) v = v := fun _ _ _ _ => rfl
  have e2 : ∀ p q r (v : (⟨S8x20000, .i32⟩ : BufTy).Contents (Elt F)),
      (TRef.of main_v86 p q r : TRef sig ⟨S8x20000, .i32⟩).toBuf (Val := Elt F) v = v := fun _ _ _ _ => rfl
  have e3 : ∀ p q r (v : (⟨S8x20000, .i32⟩ : BufTy).Contents (Elt F)),
      (TRef.of main_v91 p q r : TRef sig ⟨S8x20000, .i32⟩).ofBuf (Val := Elt F) v = v := fun _ _ _ _ => rfl
  have e4 : ∀ p q r (v : (⟨S8x20000, .i32⟩ : BufTy).Contents (Elt F)),
      (TRef.of main_v92 p q r : TRef sig ⟨S8x20000, .i32⟩).toBuf (Val := Elt F) v = v := fun _ _ _ _ => rfl
  after_results_simp
  simp only [TRef.ofBuf_toBuf, e1, e2, e3, e4]
  unfold removeV beyondV cumV keepNegV keepPosV countV posV negV
  with_reducible rfl

theorem conf_read : after opsTake V (main_v102 : DevRef τ sig)
    = confV (V (main_v101 : DevRef τ sig)) (V (main_v71 : DevRef τ sig)) := by
  after_results_simp
  rfl

theorem take_read : after opsTake V (main_v104 : DevRef τ sig)
    = takeV (V (main_arg2 : DevRef τ sig)) (boxV (V (main_v101 : DevRef τ sig)) (V (main_v53 : DevRef τ sig))) := by
  after_results_simp
  simp only [TRef.ofBuf_toBuf]
  rfl

/-- Centres and extents of the matched boxes: the first part of their stretch. -/
theorem centre_read : after (opsCentre.take 31) V (main_v133 : DevRef τ sig) = centreV (V (main_v104 : DevRef τ sig)) := by
  simp only [opsCentre, List.take_succ_cons, List.take_zero]
  after_results_simp
  rfl

theorem centre_keeps_arg1' : after (opsCentre.take 31) V (main_arg1 : DevRef τ sig) = V (main_arg1 : DevRef τ sig) := by
  simp only [opsCentre, List.take_succ_cons, List.take_zero]
  after_results_simp

/-- Centres and extents of the anchors: the rest of that stretch and the first part of the next. -/
theorem anchor_read : after (opsCentre.drop 31 ++ opsOff.take 7) V (main_v162 : DevRef τ sig)
    = anchorV (V (main_arg1 : DevRef τ sig)) := by
  simp only [opsCentre, opsOff, List.take_succ_cons, List.take_zero, List.drop_succ_cons, List.drop_zero, List.cons_append, List.nil_append]
  after_results_simp
  rfl

theorem anchor_keeps_v133 : after (opsCentre.drop 31 ++ opsOff.take 7) V (main_v133 : DevRef τ sig)
    = V (main_v133 : DevRef τ sig) := by
  simp only [opsCentre, opsOff, List.take_succ_cons, List.take_zero, List.drop_succ_cons, List.drop_zero, List.cons_append, List.nil_append]
  after_results_simp

theorem last_read : after (opsOff.drop 7) V (main_v195 : DevRef τ sig)
    = offV (V (main_v133 : DevRef τ sig)) (V (main_v162 : DevRef τ sig)) := by
  simp only [opsOff, List.drop_succ_cons, List.drop_zero]
  after_results_simp
  rfl

theorem off_read : after (opsCentre ++ opsOff) V (main_v195 : DevRef τ sig)
    = offV (centreV (V (main_v104 : DevRef τ sig))) (anchorV (V (main_arg1 : DevRef τ sig))) := by
  have h : (opsCentre ++ opsOff : List (HloOp τ sig (Elt F)))
      = opsCentre.take 31 ++ ((opsCentre.drop 31 ++ opsOff.take 7) ++ opsOff.drop 7) := by
    rw [List.append_assoc, List.take_append_drop, ← List.append_assoc, List.take_append_drop]
  rw [h, StableHlo.after_append, StableHlo.after_append, last_read, anchor_read, anchor_keeps_v133, centre_read, centre_keeps_arg1']

/-! ## What a stretch leaves as it was -/

theorem iou_keeps_arg0 : after opsIou V (main_arg0 : DevRef τ sig) = V (main_arg0 : DevRef τ sig) := by
  after_results_simp

theorem iou_keeps_arg1 : after opsIou V (main_arg1 : DevRef τ sig) = V (main_arg1 : DevRef τ sig) := by
  after_results_simp

theorem iou_keeps_arg2 : after opsIou V (main_arg2 : DevRef τ sig) = V (main_arg2 : DevRef τ sig) := by
  after_results_simp

theorem iou_keeps_arg3 : after opsIou V (main_arg3 : DevRef τ sig) = V (main_arg3 : DevRef τ sig) := by
  after_results_simp

theorem best_keeps_v51 : after opsBest V (main_v51 : DevRef τ sig) = V (main_v51 : DevRef τ sig) := by
  after_results_simp

theorem best_keeps_arg0 : after opsBest V (main_arg0 : DevRef τ sig) = V (main_arg0 : DevRef τ sig) := by
  after_results_simp

theorem best_keeps_arg1 : after opsBest V (main_arg1 : DevRef τ sig) = V (main_arg1 : DevRef τ sig) := by
  after_results_simp

theorem best_keeps_arg2 : after opsBest V (main_arg2 : DevRef τ sig) = V (main_arg2 : DevRef τ sig) := by
  after_results_simp

theorem best_keeps_arg3 : after opsBest V (main_arg3 : DevRef τ sig) = V (main_arg3 : DevRef τ sig) := by
  after_results_simp

theorem label_keeps_v53 : after opsLabel V (main_v53 : DevRef τ sig) = V (main_v53 : DevRef τ sig) := by
  after_results_simp

theorem label_keeps_arg0 : after opsLabel V (main_arg0 : DevRef τ sig) = V (main_arg0 : DevRef τ sig) := by
  after_results_simp

theorem label_keeps_arg1 : after opsLabel V (main_arg1 : DevRef τ sig) = V (main_arg1 : DevRef τ sig) := by
  after_results_simp

theorem label_keeps_arg2 : after opsLabel V (main_arg2 : DevRef τ sig) = V (main_arg2 : DevRef τ sig) := by
  after_results_simp

theorem label_keeps_arg3 : after opsLabel V (main_arg3 : DevRef τ sig) = V (main_arg3 : DevRef τ sig) := by
  after_results_simp

theorem remove_keeps_v53 : after opsRemove V (main_v53 : DevRef τ sig) = V (main_v53 : DevRef τ sig) := by
  after_results_simp

theorem remove_keeps_v71 : after opsRemove V (main_v71 : DevRef τ sig) = V (main_v71 : DevRef τ sig) := by
  after_results_simp

theorem remove_keeps_arg0 : after opsRemove V (main_arg0 : DevRef τ sig) = V (main_arg0 : DevRef τ sig) := by
  after_results_simp

theorem remove_keeps_arg1 : after opsRemove V (main_arg1 : DevRef τ sig) = V (main_arg1 : DevRef τ sig) := by
  after_results_simp

theorem remove_keeps_arg2 : after opsRemove V (main_arg2 : DevRef τ sig) = V (main_arg2 : DevRef τ sig) := by
  after_results_simp

theorem remove_keeps_arg3 : after opsRemove V (main_arg3 : DevRef τ sig) = V (main_arg3 : DevRef τ sig) := by
  after_results_simp

theorem take_keeps_arg0 : after opsTake V (main_arg0 : DevRef τ sig) = V (main_arg0 : DevRef τ sig) := by
  after_results_simp

theorem take_keeps_arg1 : after opsTake V (main_arg1 : DevRef τ sig) = V (main_arg1 : DevRef τ sig) := by
  after_results_simp

theorem take_keeps_arg2 : after opsTake V (main_arg2 : DevRef τ sig) = V (main_arg2 : DevRef τ sig) := by
  after_results_simp

theorem take_keeps_arg3 : after opsTake V (main_arg3 : DevRef τ sig) = V (main_arg3 : DevRef τ sig) := by
  after_results_simp

theorem centre_keeps_v102 : after opsCentre V (main_v102 : DevRef τ sig) = V (main_v102 : DevRef τ sig) := by
  after_results_simp

theorem centre_keeps_arg0 : after opsCentre V (main_arg0 : DevRef τ sig) = V (main_arg0 : DevRef τ sig) := by
  after_results_simp

theorem centre_keeps_arg1 : after opsCentre V (main_arg1 : DevRef τ sig) = V (main_arg1 : DevRef τ sig) := by
  after_results_simp

theorem centre_keeps_arg2 : after opsCentre V (main_arg2 : DevRef τ sig) = V (main_arg2 : DevRef τ sig) := by
  after_results_simp

theorem centre_keeps_arg3 : after opsCentre V (main_arg3 : DevRef τ sig) = V (main_arg3 : DevRef τ sig) := by
  after_results_simp

theorem off_keeps_v102 : after opsOff V (main_v102 : DevRef τ sig) = V (main_v102 : DevRef τ sig) := by
  after_results_simp

theorem off_keeps_arg0 : after opsOff V (main_arg0 : DevRef τ sig) = V (main_arg0 : DevRef τ sig) := by
  after_results_simp

theorem off_keeps_arg1 : after opsOff V (main_arg1 : DevRef τ sig) = V (main_arg1 : DevRef τ sig) := by
  after_results_simp

theorem off_keeps_arg2 : after opsOff V (main_arg2 : DevRef τ sig) = V (main_arg2 : DevRef τ sig) := by
  after_results_simp

theorem off_keeps_arg3 : after opsOff V (main_arg3 : DevRef τ sig) = V (main_arg3 : DevRef τ sig) := by
  after_results_simp

/-! ## The whole run -/

/-- The first result is `confOf` of the arguments. -/
theorem conf_eq : after ops V (main_v102 : DevRef τ sig)
    = confOf (V (main_arg1 : DevRef τ sig)) (V (main_arg2 : DevRef τ sig)) := by
  simp only [ops, StableHlo.after_append]
  rw [off_keeps_v102, centre_keeps_v102, conf_read, remove_read, remove_keeps_v71, label_read _ (threshold_read _), best_read,
    unmatched_read, best_keeps_v51, iou_read]
  rfl

/-- The second result is `offOf` of the arguments. -/
theorem off_eq : after ops V (main_v195 : DevRef τ sig)
    = offOf (V (main_arg1 : DevRef τ sig)) (V (main_arg2 : DevRef τ sig)) := by
  have h := off_read (after opsTake (after (opsLabel ++ opsRemove) (after (opsIou ++ opsBest) V)))
  simp only [ops, StableHlo.after_append] at h ⊢
  rw [h, take_read, take_keeps_arg1, remove_read, remove_keeps_v53, remove_keeps_arg1, remove_keeps_arg2, label_read _ (threshold_read _),
    label_keeps_v53, label_keeps_arg1, label_keeps_arg2, best_read, unmatched_read, arg_read, best_keeps_v51, best_keeps_arg1,
    best_keeps_arg2, iou_read, iou_keeps_arg1, iou_keeps_arg2]
  rfl

/-- Argument 0 is left as it was. -/
theorem arg0_eq : after ops V (main_arg0 : DevRef τ sig) = V (main_arg0 : DevRef τ sig) := by
  simp only [ops, StableHlo.after_append]
  rw [off_keeps_arg0, centre_keeps_arg0, take_keeps_arg0, remove_keeps_arg0, label_keeps_arg0, best_keeps_arg0, iou_keeps_arg0]

/-- Argument 1 is left as it was. -/
theorem arg1_eq : after ops V (main_arg1 : DevRef τ sig) = V (main_arg1 : DevRef τ sig) := by
  simp only [ops, StableHlo.after_append]
  rw [off_keeps_arg1, centre_keeps_arg1, take_keeps_arg1, remove_keeps_arg1, label_keeps_arg1, best_keeps_arg1, iou_keeps_arg1]

/-- Argument 2 is left as it was. -/
theorem arg2_eq : after ops V (main_arg2 : DevRef τ sig) = V (main_arg2 : DevRef τ sig) := by
  simp only [ops, StableHlo.after_append]
  rw [off_keeps_arg2, centre_keeps_arg2, take_keeps_arg2, remove_keeps_arg2, label_keeps_arg2, best_keeps_arg2, iou_keeps_arg2]

/-- Argument 3 is left as it was. -/
theorem arg3_eq : after ops V (main_arg3 : DevRef τ sig) = V (main_arg3 : DevRef τ sig) := by
  simp only [ops, StableHlo.after_append]
  rw [off_keeps_arg3, centre_keeps_arg3, take_keeps_arg3, remove_keeps_arg3, label_keeps_arg3, best_keeps_arg3, iou_keeps_arg3]

end Cert.RefRun

end
-- ==== Proof.RefIou.lean ====
/- The reference's overlaps, read at one anchor and one box. -/
module

public import proofs.«01_k».proof.Proof.Spec
public import proofs.«01_k».proof.Proof.RefRun
public import Idealize.ShloMosaic.Lib.Pointwise

@[expose] public section

set_option maxRecDepth 16384

noncomputable section

namespace Cert.RefValue

open Idealize.ShloMosaic Cert.ReferenceIdeal Cert.ReferenceIdeal.Gen Cert.RefRun
open Cert.Spec

variable (x1 : FVec Ideal S8x20000x4 .f32) (x2 : FVec Ideal S8x32x4 .f32) (t : Fin 8) (n : Fin 20000) (g : Fin 32)

/-- The coordinates of the image's anchors. -/
abbrev anc : Fin 20000 → Fin 4 → EReal := fun n k => x1 (ix3 t n k)

/-- The coordinates of the image's boxes. -/
abbrev bx : Fin 32 → Fin 4 → EReal := fun g k => x2 (ix3 t g k)

theorem areaA_eq : areaAV x1 (ix2 t n) = area (anc x1 t n) := by
  unfold areaAV
  pointwise
  rfl

theorem areaB_eq : areaBV x2 (ix2 t g) = area (bx x2 t g) := by
  unfold areaBV
  pointwise
  rfl

theorem inter_eq : interV x1 x2 (ix3 t n g) = inter (anc x1 t n) (bx x2 t g) := by
  unfold interV
  pointwise
  rw [inter, max_comm 0, max_comm 0]

theorem iouV_eq (a : FVec Ideal S8x20000 .f32) (b : FVec Ideal S8x32 .f32) (i : FVec Ideal S8x20000x32 .f32) :
    iouV a b i (ix3 t n g) = Ideal.div (i (ix3 t n g)) (max (a (ix2 t n) + b (ix2 t g) - i (ix3 t n g)) (Ideal.ofBits .f32 0x3089705F#32)) := by
  unfold iouV
  pointwise

/-- The reference's overlaps. -/
theorem iou_eq : iouOf x1 x2 (ix3 t n g) = overlaps (anc x1 t) (bx x2 t) n g := by
  rw [iouOf, iouV_eq, areaA_eq, areaB_eq, inter_eq]
  rfl

end Cert.RefValue

end
-- ==== Proof.Reduce.lean ====
/- Reductions along one axis, of arrays of any extents: folds and counts along that axis, running counts, and the arg-max. -/
module

public import Idealize.ShloMosaic.PureOps.Ideal.Laws
public import Idealize.ShloMosaic.Lib.Pointwise
public import Idealize.ShloMosaic.Lib.Routing.Ops

@[expose] public section

set_option maxRecDepth 16384

noncomputable section

namespace Cert.Reduce

open Idealize.ShloMosaic

variable {α : Type} {A B C : ℕ} {u : Shape}

/-- A fold over the last of three axes. -/
theorem last3 (f : α → α → α) [Std.Commutative f] [Std.Associative f] (x : (⟨3, ![A, B, C]⟩ : Shape).Idx → α) (init : u.Idx → α)
    (h : (⟨3, ![A, B, C]⟩ : Shape).ReducesTo [2] ⟨2, ![A, B]⟩) (hu : 0 < u.numel) (a : Fin A) (b : Fin B) :
    Host.reduce f x init h hu (ix2 a b) = Finset.univ.fold f (init (Shape.Idx.first hu)) fun k => x (ix3 a b k) := by
  rw [Host.reduce_eq_fold, Shape.ReducesTo.fold_fiber_r3_a2]
  rfl

/-- A fold over the middle of three axes. -/
theorem mid3 (f : α → α → α) [Std.Commutative f] [Std.Associative f] (x : (⟨3, ![A, B, C]⟩ : Shape).Idx → α) (init : u.Idx → α)
    (h : (⟨3, ![A, B, C]⟩ : Shape).ReducesTo [1] ⟨2, ![A, C]⟩) (hu : 0 < u.numel) (a : Fin A) (c : Fin C) :
    Host.reduce f x init h hu (ix2 a c) = Finset.univ.fold f (init (Shape.Idx.first hu)) fun k => x (ix3 a k c) := by
  rw [Host.reduce_eq_fold, Shape.ReducesTo.fold_fiber_r3_a1]
  rfl

/-- A running sum along the second of two axes: where row `a`'s entry `i` holds `f i`, its entry `j` of the result holds
`f 0 + … + f j`. -/
theorem cumsum {N L : ℕ} (hN : L + 1 = N) (x : IVec (⟨2, ![A, N]⟩ : Shape) 32) (f : ℕ → ℕ) (a : Fin A)
    (hx : ∀ i : Fin N, x (ix2 a i) = BitVec.ofNat 32 (f i.val)) (init : IVec u 32) (hu : 0 < u.numel)
    (hinit : init (Shape.Idx.first hu) = 0#32)
    (h : (⟨2, ![A, N]⟩ : Shape).ReduceWindows (![1, N] : Fin 2 → ℕ) ![1, 1] ![0, L] ![0, 0] ⟨2, ![A, N]⟩) (j : Fin N) :
    Host.reduceWindow IntOp.addi ![1, N] ![1, 1] ![0, L] ![0, 0] x init h hu (ix2 a j)
      = BitVec.ofNat 32 ((List.range (j.val + 1)).map f).sum := by
  subst hN
  have hj := j.isLt
  have ha := a.isLt
  have off : ∀ n : Fin (⟨2, ![1, L + 1]⟩ : Shape).numel, (⟨2, ![1, L + 1]⟩ : Shape).rowMajor.symm n
      = ix2 (0 : Fin 1) (n.cast (Routing.numel2 (L + 1))) := Routing.symm2
  unfold Host.reduceWindow
  refine (Routing.foldl_addi_ofNat _ _ (fun n => if L ≤ j.val + n.val then f (j.val + n.val - L) else 0) (fun n _ => ?_) _ 0 hinit).trans ?_
  · have h0 : ((⟨2, ![1, L + 1]⟩ : Shape).rowMajor.symm n 0).val = 0 := by rw [off]; rfl
    have h1 : ((⟨2, ![1, L + 1]⟩ : Shape).rowMajor.symm n 1).val = n.val := by rw [off]; rfl
    have hn : n.val < L + 1 := (n.cast (Routing.numel2 _)).isLt
    by_cases hle : L ≤ j.val + n.val
    · rw [if_pos hle]
      dsimp only
      rw [dif_pos]
      · refine (congrArg x (funext fun b => Fin.ext ?_)).trans (hx ⟨j.val + n.val - L, by omega⟩)
        fin_cases b
        · show a.val * 1 + ((⟨2, ![1, L + 1]⟩ : Shape).rowMajor.symm n 0).val - 0 = a.val
          omega
        · show j.val * 1 + ((⟨2, ![1, L + 1]⟩ : Shape).rowMajor.symm n 1).val - L = j.val + n.val - L
          omega
      · intro b
        fin_cases b
        · show 0 ≤ a.val * 1 + ((⟨2, ![1, L + 1]⟩ : Shape).rowMajor.symm n 0).val
            ∧ a.val * 1 + ((⟨2, ![1, L + 1]⟩ : Shape).rowMajor.symm n 0).val - 0 < A
          omega
        · show L ≤ j.val * 1 + ((⟨2, ![1, L + 1]⟩ : Shape).rowMajor.symm n 1).val
            ∧ j.val * 1 + ((⟨2, ![1, L + 1]⟩ : Shape).rowMajor.symm n 1).val - L < L + 1
          omega
    · rw [if_neg hle]
      dsimp only
      rw [dif_neg]
      · exact hinit
      · intro hin
        have h2 : L ≤ j.val * 1 + ((⟨2, ![1, L + 1]⟩ : Shape).rowMajor.symm n 1).val := (hin 1).1
        omega
  · rw [Nat.zero_add, Routing.map_finRange_val _ fun w => if L ≤ j.val + w then f (j.val + w - L) else 0,
      show (⟨2, ![1, L + 1]⟩ : Shape).numel = L + 1 from Routing.numel2 (L + 1), Routing.sum_window f L j.val (by omega)]

/-! ## The arg-max -/

/-- One pair is at least as good as another: its value is greater, or the same at an index that is not after. -/
def Wins (p q : EReal × BitVec 32) : Prop := q.1 < p.1 ∨ q.1 = p.1 ∧ p.2.toInt ≤ q.2.toInt

theorem Wins.refl (p : EReal × BitVec 32) : Wins p p := Or.inr ⟨rfl, le_refl _⟩

theorem Wins.trans {p q r : EReal × BitVec 32} (h : Wins p q) (k : Wins q r) : Wins p r := by
  rcases h with h | ⟨h, h'⟩ <;> rcases k with k | ⟨k, k'⟩
  · exact Or.inl (k.trans h)
  · exact Or.inl (k ▸ h)
  · exact Or.inl (h ▸ k)
  · exact Or.inr ⟨k.trans h, h'.trans k'⟩

/-- A fold that keeps one of each two pairs, one that wins over both, ends at a pair of the list that wins over all. -/
theorem foldl_wins (f : EReal × BitVec 32 → EReal × BitVec 32 → EReal × BitVec 32)
    (hf : ∀ p q, (f p q = p ∨ f p q = q) ∧ Wins (f p q) p ∧ Wins (f p q) q) (l : List (EReal × BitVec 32)) (p : EReal × BitVec 32) :
    (l.foldl f p = p ∨ l.foldl f p ∈ l) ∧ Wins (l.foldl f p) p ∧ ∀ q ∈ l, Wins (l.foldl f p) q := by
  induction l generalizing p with
  | nil => exact ⟨Or.inl rfl, Wins.refl p, fun q h => absurd h (List.not_mem_nil)⟩
  | cons a l ih =>
    obtain ⟨h1, h2, h3⟩ := ih (f p a)
    obtain ⟨k1, k2, k3⟩ := hf p a
    rw [List.foldl_cons]
    refine ⟨?_, h2.trans k2, fun q hq => ?_⟩
    · rcases h1 with h1 | h1
      · rcases k1 with k1 | k1
        · exact Or.inl (h1.trans k1)
        · exact Or.inr (by rw [h1, k1]; exact List.mem_cons_self)
      · exact Or.inr (List.mem_cons_of_mem _ h1)
    · rcases List.mem_cons.mp hq with rfl | hq
      · exact h2.trans k3
      · exact h3 q hq

/-- The pairs that an arg-max along the last of three axes goes over. -/
theorem mem_fiber (x : FVec Ideal (⟨3, ![A, B, C]⟩ : Shape) .f32) (y : IVec (⟨3, ![A, B, C]⟩ : Shape) 32)
    (h : (⟨3, ![A, B, C]⟩ : Shape).ReducesTo [2] ⟨2, ![A, B]⟩) (a : Fin A) (b : Fin B) (p : EReal × BitVec 32) :
    p ∈ Host.argReduceFiber x y h (ix2 a b) ↔ ∃ k, p = (x (ix3 a b k), y (ix3 a b k)) := by
  unfold Host.argReduceFiber
  rw [List.mem_map]
  constructor
  · rintro ⟨n, hn, rfl⟩
    obtain ⟨k, hk⟩ := (h.fiber_r3_a2 _ _).mp (of_decide_eq_true (List.mem_filter.mp hn).2)
    exact ⟨k, by rw [← hk]; rfl⟩
  · rintro ⟨k, rfl⟩
    refine ⟨(⟨3, ![A, B, C]⟩ : Shape).rowMajor (ix3 a b k), List.mem_filter.mpr ⟨List.mem_finRange _, decide_eq_true ?_⟩, ?_⟩
    · rw [Equiv.symm_apply_apply]
      exact (h.fiber_r3_a2 _ _).mpr ⟨k, rfl⟩
    · rw [Equiv.symm_apply_apply]

/-- An arg-max along the last of three axes ends at the pair it starts from or at one of the array's, and it wins over them all. -/
theorem argmax (f : EReal × BitVec 32 → EReal × BitVec 32 → EReal × BitVec 32)
    (hf : ∀ p q, (f p q = p ∨ f p q = q) ∧ Wins (f p q) p ∧ Wins (f p q) q)
    (x : FVec Ideal (⟨3, ![A, B, C]⟩ : Shape) .f32) (y : IVec (⟨3, ![A, B, C]⟩ : Shape) 32) (ix : FVec Ideal u .f32) (iy : IVec u 32)
    (h : (⟨3, ![A, B, C]⟩ : Shape).ReducesTo [2] ⟨2, ![A, B]⟩) (hu : 0 < u.numel) (a : Fin A) (b : Fin B) :
    (Host.reduce2 f x y ix iy h hu (ix2 a b) = (ix (Shape.Idx.first hu), iy (Shape.Idx.first hu))
        ∨ ∃ k, Host.reduce2 f x y ix iy h hu (ix2 a b) = (x (ix3 a b k), y (ix3 a b k)))
      ∧ Wins (Host.reduce2 f x y ix iy h hu (ix2 a b)) (ix (Shape.Idx.first hu), iy (Shape.Idx.first hu))
      ∧ ∀ k, Wins (Host.reduce2 f x y ix iy h hu (ix2 a b)) (x (ix3 a b k), y (ix3 a b k)) := by
  rw [Host.reduce2_eq_foldl_fiber]
  obtain ⟨h1, h2, h3⟩ := foldl_wins f hf (Host.argReduceFiber x y h (ix2 a b)) (ix (Shape.Idx.first hu), iy (Shape.Idx.first hu))
  exact ⟨h1.imp_right fun m => (mem_fiber x y h a b _).mp m, h2, fun k => h3 _ ((mem_fiber x y h a b _).mpr ⟨k, rfl⟩)⟩

end Cert.Reduce

end
-- ==== Proof.RefLabel.lean ====
/- The reference's best overlaps, best boxes and labels before the drop, read at one anchor from the overlaps. -/
module

public import proofs.«01_k».proof.Proof.Spec
public import proofs.«01_k».proof.Proof.RefRun
public import proofs.«01_k».proof.Proof.Reduce

@[expose] public section

set_option maxRecDepth 16384

noncomputable section

namespace Cert.RefValue

open Idealize.ShloMosaic Cert.ReferenceIdeal Cert.ReferenceIdeal.Gen Cert.RefRun
open Cert.Spec
open Classical

theorem bot : Ideal.ofBits .f32 0xFF800000#32 = ⊥ := by
  simp [Ideal.ofBits, Ideal.ieee]

/-- A maximum from minus infinity is the supremum. -/
theorem fold_max {ι : Type} (s : Finset ι) (f : ι → EReal) : s.fold max (Ideal.ofBits .f32 0xFF800000#32) f = s.sup f := by
  rw [bot]
  rfl

/-- Some bit is set. -/
theorem fold_or {ι : Type} (s : Finset ι) (f : ι → BitVec 1) : s.fold IntOp.ori (0#1) f = 1#1 ↔ ∃ i ∈ s, f i = 1#1 := by
  induction s using Finset.induction_on with
  | empty => simp
  | insert a s ha ih =>
    have e : ∀ b c : BitVec 1, IntOp.ori b c = 1#1 ↔ b = 1#1 ∨ c = 1#1 := by decide
    rw [Finset.fold_insert ha, e, ih]
    simp

/-! ## The best box -/

/-- One step of the arg-max keeps the pair that wins. -/
theorem argmax_step (p q : EReal × BitVec 32) :
    let r : EReal × BitVec 32 := reducer_argmax_f32_i32 (F := Ideal) p q
    (r = p ∨ r = q) ∧ Reduce.Wins r p ∧ Reduce.Wins r q := by
  obtain ⟨a, i⟩ := p
  obtain ⟨b, j⟩ := q
  intro r
  have hr : r = (if b < a then a else b, if b < a ∨ (a = b ∧ i.toInt < j.toInt) then i else j) := by
    have g1 : FloatOps.cmpf (F := Ideal) (φ := .f32) .ogt a b = BitVec.ofBool (decide (b < a)) := rfl
    have g2 : FloatOps.cmpf (F := Ideal) (φ := .f32) .une a a = 0#1 := by simp [FloatOps.cmpf, Ideal.cmp]
    have g3 : FloatOps.cmpf (F := Ideal) (φ := .f32) .oeq a b = BitVec.ofBool (decide (a = b)) := rfl
    have g4 : IntOp.cmpi .slt i j = BitVec.ofBool (decide (i.toInt < j.toInt)) := by
      show BitVec.ofBool (i.slt j) = _
      rw [BitVec.slt_eq_decide]
    show reducer_argmax_f32_i32 (F := Ideal) (a, i) (b, j) = _
    unfold reducer_argmax_f32_i32
    simp only [g1, g2, g3, g4]
    by_cases h1 : b < a <;> by_cases h2 : a = b <;> by_cases h3 : i.toInt < j.toInt <;>
      simp [h1, h2, h3, IntOp.ori, IntOp.andi, Scalar.select]
  rw [hr]
  unfold Reduce.Wins
  rcases lt_trichotomy b a with h | h | h
  · simp [h]
  · subst h
    by_cases k : i.toInt < j.toInt
    · simp [k, k.le]
    · simp [k, not_lt.mp k]
  · simp [h, h.not_gt, h.ne]

/-- The arg-max as a plain fold. -/
theorem arg_fold (v : FVec Ideal S8x20000x32 .f32) :
    argV v = fun j => (Host.reduce2 reducer_argmax_f32_i32 v (iotaInDim S8x20000x32 32 2) (constant S_ .f32 0xFF800000#32)
      (constantI S_ 32 0#32) reducesTo_S8x20000x32_S8x20000_d2 h_S_ j).2 := by
  rw [← Ideal.argReduce_eq_reduce2]
  rfl

theorem box_word (k : Fin 32) : (BitVec.ofNat 32 k.val).toInt = k.val := by
  revert k; decide

theorem iota_at (t : Fin 8) (n : Fin 20000) (k : Fin 32) : (iotaInDim S8x20000x32 32 2 : IVec S8x20000x32 32) (ix3 t n k) = BitVec.ofNat 32 k.val := by
  pointwise

/-- The box that the reference's arg-max takes is the first of the greatest overlap. -/
theorem arg_first (v : FVec Ideal S8x20000x32 .f32) (t : Fin 8) (n : Fin 20000) :
    ∃ i : Fin 32, IsFirst (fun g => v (ix3 t n g)) i ∧ argV v (ix2 t n) = BitVec.ofNat 32 i.val := by
  have h := Reduce.argmax _ argmax_step v (iotaInDim S8x20000x32 32 2) (constant S_ .f32 0xFF800000#32) (constantI S_ 32 0#32)
    reducesTo_S8x20000x32_S8x20000_d2 h_S_ t n
  rw [congrFun (arg_fold v) (ix2 t n)]
  generalize Host.reduce2 reducer_argmax_f32_i32 v (iotaInDim S8x20000x32 32 2) (constant S_ .f32 0xFF800000#32)
    (constantI S_ 32 0#32) reducesTo_S8x20000x32_S8x20000_d2 h_S_ (ix2 t n) = r at h
  obtain ⟨h1, -, h3⟩ := h
  have key : ∃ i : Fin 32, r = (v (ix3 t n i), BitVec.ofNat 32 i.val) := by
    rcases h1 with h1 | ⟨k, h1⟩
    · have e : r = (⊥, 0#32) := h1.trans (Prod.ext bot rfl)
      have h0 := h3 0
      rw [e] at h0
      refine ⟨0, e.trans (Prod.ext ?_ rfl)⟩
      rcases h0 with h0 | h0
      · exact absurd h0 not_lt_bot
      · exact h0.1.symm
    · exact ⟨k, h1.trans (Prod.ext rfl (iota_at t n k))⟩
  obtain ⟨i, rfl⟩ := key
  refine ⟨i, ⟨fun k => ?_, fun k hk => ?_⟩, rfl⟩
  · rcases h3 k with h | h
    · exact le_of_lt h
    · exact le_of_eq h.1
  · rcases h3 k with h | h
    · exact h
    · have := h.2
      rw [iota_at, box_word, box_word] at this
      exact absurd hk (not_lt.mpr (Fin.le_def.mpr (by exact_mod_cast this)))

theorem arg_eq (v : FVec Ideal S8x20000x32 .f32) (t : Fin 8) (n : Fin 20000) :
    argV v (ix2 t n) = BitVec.ofNat 32 (first fun g => v (ix3 t n g)).val := by
  obtain ⟨i, hi, e⟩ := arg_first v t n
  rw [e, first_eq hi]

/-- The best overlap is the one of that box. -/
theorem best_sup (v : FVec Ideal S8x20000x32 .f32) (t : Fin 8) (n : Fin 20000) :
    bestV v (ix2 t n) = Finset.univ.sup fun g => v (ix3 t n g) := by
  unfold bestV
  dsimp only
  rw [Reduce.last3]
  exact fold_max _ _

theorem best_eq (v : FVec Ideal S8x20000x32 .f32) (t : Fin 8) (n : Fin 20000) :
    bestV v (ix2 t n) = v (ix3 t n (first fun g => v (ix3 t n g))) := by
  obtain ⟨i, hi, -⟩ := arg_first v t n
  rw [best_sup, first_eq hi]
  exact le_antisymm (Finset.sup_le fun g _ => hi.1 g) (Finset.le_sup (f := fun g => v (ix3 t n g)) (Finset.mem_univ i))

/-! ## The labels -/

theorem top_eq (v : FVec Ideal S8x20000x32 .f32) (t : Fin 8) (g : Fin 32) :
    topV v (ix2 t g) = top (fun n g => v (ix3 t n g)) g := by
  unfold topV
  dsimp only
  rw [Reduce.mid3]
  exact fold_max _ _

theorem tie_eq (v : FVec Ideal S8x20000x32 .f32) (z : FVec Ideal S8x32 .f32) (t : Fin 8) (n : Fin 20000) (g : Fin 32) :
    tieV v z (ix3 t n g) = 1#1 ↔ z (ix2 t g) ≤ v (ix3 t n g) ∧ 0 < z (ix2 t g) := by
  unfold tieV
  pointwise
  by_cases h : z (ix2 t g) ≤ v (ix3 t n g) <;> by_cases k : 0 < z (ix2 t g) <;> simp [h, k, IntOp.andi]

theorem forced_eq (v : FVec Ideal S8x20000x32 .f32) (t : Fin 8) (n : Fin 20000) :
    forcedV (tieV v (topV v)) (ix2 t n) = 1#1 ↔ Forced (fun n g => v (ix3 t n g)) n := by
  unfold forcedV
  dsimp only
  rw [Reduce.last3]
  refine (fold_or _ _).trans ?_
  unfold Forced
  refine exists_congr fun g => ?_
  rw [tie_eq, top_eq]
  simp

theorem raw_eq (w : FVec Ideal S8x20000 .f32) (t : Fin 8) (n : Fin 20000) :
    rawV w (unmatchedV) (ix2 t n) = Spec.labelOf False (w (ix2 t n)) := by
  unfold rawV unmatchedV Spec.labelOf
  pointwise

/-- The reference's label before the drop. -/
theorem label_eq (v : FVec Ideal S8x20000x32 .f32) (t : Fin 8) (n : Fin 20000) :
    RefRun.labelOf v (ix2 t n) = label (fun n g => v (ix3 t n g)) n := by
  have hf := forced_eq v t n
  have hr := raw_eq (bestV v) t n
  unfold RefRun.labelOf labelV label
  generalize forcedV (tieV v (topV v)) = b at hf
  generalize rawV (bestV v) (unmatchedV) = r at hr
  unfold forceV
  pointwise
  rw [hr, best_eq]
  by_cases h : Forced (fun n g => v (ix3 t n g)) n
  · rw [hf.mpr h]
    simp [Scalar.select, Spec.labelOf, h]
  · have hb : b (ix2 t n) ≠ 1#1 := fun e => h (hf.mp e)
    simp [Scalar.select, Spec.labelOf, h, hb]

end Cert.RefValue

end
-- ==== Proof.RefDrop.lean ====
/- The anchors that the reference drops, from the labels before: counts as words, and the two comparisons. -/
module

public import proofs.«01_k».proof.Proof.KBlock
public import proofs.«01_k».proof.Proof.RefLabel

@[expose] public section

set_option maxRecDepth 16384

noncomputable section

namespace Cert.RefValue

open Idealize.ShloMosaic Cert.ReferenceIdeal Cert.ReferenceIdeal.Gen Cert.RefRun
open Cert.Spec
open Classical

/-! ## Counts -/

/-- One at the anchors that have the property, zero elsewhere and beyond the anchors. -/
def hit (p : Fin 20000 → Prop) (i : ℕ) : ℕ := if h : i < 20000 then if p ⟨i, h⟩ then 1 else 0 else 0

/-- A count of the anchors before `n` as a sum over a list. -/
theorem cnt_list (p : Fin 20000 → Prop) (n : ℕ) (hn : n ≤ 20000) : ((List.range n).map (hit p)).sum = cnt p n := by
  have e : ∀ k, ((List.range k).map (hit p)).sum = ∑ i ∈ Finset.range k, hit p i := by
    intro k
    induction k with
    | zero => simp
    | succ k ih => rw [List.sum_range_succ, Finset.sum_range_succ, ih]
  have g : cnt p n = ∑ m : Fin 20000, (fun i => if i < n then hit p i else 0) m.val := by
    refine Finset.sum_congr rfl fun m _ => ?_
    by_cases h : m.val < n <;> by_cases k : p m <;> simp [h, k, hit]
  rw [e, g, Fin.sum_univ_eq_sum_range (fun i => if i < n then hit p i else 0) 20000, ← Finset.sum_filter]
  refine Finset.sum_congr (Finset.ext fun i => ?_) fun _ _ => rfl
  simp only [Finset.mem_range, Finset.mem_filter]
  omega

section Marks

variable (b : IVec S8x20000 1) (t : Fin 8) (p : Fin 20000 → Prop) (hb : ∀ n, b (ix2 t n) = 1#1 ↔ p n)

include hb

/-- How many anchors are marked. -/
theorem count_eq : countV b (ix1 t) = BitVec.ofNat 32 (cnt p 20000) := by
  apply BitVec.eq_of_toNat_eq
  unfold countV
  dsimp only
  rw [StableHlo.Predicate.toNat_reduce_count_cols (by norm_num) b natLt_1_32 reducesTo_S8x20000_S8_d1 h_S_ (ix1 t), BitVec.toNat_ofNat,
    Nat.mod_eq_of_lt (lt_of_le_of_lt (cnt_le p 20000) (by norm_num)), Finset.card_filter, cnt]
  refine Finset.sum_congr rfl fun m _ => if_congr ?_ rfl rfl
  refine (iff_of_eq (congrArg (fun i => b i = 1#1) (Routing.ij_eq_ix2 t m))).trans ?_
  exact (hb m).trans ⟨fun h => ⟨m.isLt, h⟩, fun h => h.2⟩

/-- How many anchors are marked up to one. -/
theorem cum_eq (n : Fin 20000) : cumV b (ix2 t n) = BitVec.ofNat 32 (cnt p (n.val + 1)) := by
  unfold cumV
  dsimp only
  rw [← cnt_list p (n.val + 1) n.isLt]
  refine Reduce.cumsum (by norm_num) _ (hit p) t (fun i => ?_) _ _ rfl _ n
  show (b (ix2 t i)).setWidth 32 = _
  rcases KState.one_bit (b (ix2 t i)) with h | h
  · have k : ¬ p i := fun q => absurd ((hb i).mpr q) (by rw [h]; decide)
    rw [h]
    simp [hit, k]
  · have k : p i := (hb i).mp h
    rw [h]
    simp [hit, k]

end Marks

/-! ## What stays -/

theorem min_word (x y : ℕ) (hx : x < 2 ^ 31) (hy : y < 2 ^ 31) :
    IntOp.minsi (BitVec.ofNat 32 x) (BitVec.ofNat 32 y) = BitVec.ofNat 32 (min x y) := by
  have h : (BitVec.ofNat 32 x).slt (BitVec.ofNat 32 y) = true ↔ x < y := by
    simp only [BitVec.slt, StableHlo.Predicate.toInt_ofNat_small x hx, StableHlo.Predicate.toInt_ofNat_small y hy, decide_eq_true_eq]
    omega
  unfold IntOp.minsi
  by_cases k : x < y
  · rw [if_pos (h.mpr k), min_eq_left k.le]
  · rw [if_neg fun c => k (h.mp c), min_eq_right (not_lt.mp k)]

theorem sub_word (x y : ℕ) (h : y ≤ x) (hx : x < 2 ^ 31) : IntOp.subi (BitVec.ofNat 32 x) (BitVec.ofNat 32 y) = BitVec.ofNat 32 (x - y) := by
  apply BitVec.eq_of_toNat_eq
  show (BitVec.ofNat 32 x - BitVec.ofNat 32 y).toNat = _
  rw [BitVec.toNat_sub, BitVec.toNat_ofNat, BitVec.toNat_ofNat, BitVec.toNat_ofNat]
  omega

theorem keepPos_word (c : IVec S8 32) (t : Fin 8) (T : ℕ) (hT : T < 2 ^ 31) (h : c (ix1 t) = BitVec.ofNat 32 T) :
    keepPosV c (ix1 t) = BitVec.ofNat 32 (keepPos T) := by
  unfold keepPosV
  pointwise
  rw [h]
  exact min_word T 128 hT (by norm_num)

theorem keepNeg_word (c k : IVec S8 32) (t : Fin 8) (T K : ℕ) (hT : T < 2 ^ 31) (h : c (ix1 t) = BitVec.ofNat 32 T)
    (hk : k (ix1 t) = BitVec.ofNat 32 K) (hK : K ≤ 128) :
    keepNegV c k (ix1 t) = BitVec.ofNat 32 (keepNeg T K) := by
  unfold keepNegV
  pointwise
  rw [h, hk]
  rw [show (256#32 : BitVec 32) = BitVec.ofNat 32 256 from rfl, sub_word 256 K (by omega) (by norm_num)]
  exact min_word T (256 - K) hT (by omega)

theorem beyond_word (b : IVec S8x20000 1) (c : IVec S8x20000 32) (k : IVec S8 32) (t : Fin 8) (n : Fin 20000) (p : Prop) (x K : ℕ)
    (hb : b (ix2 t n) = 1#1 ↔ p) (hc : c (ix2 t n) = BitVec.ofNat 32 x) (hk : k (ix1 t) = BitVec.ofNat 32 K) (hx : x < 2 ^ 31)
    (hK : K < 2 ^ 31) : beyondV b c k (ix2 t n) = 1#1 ↔ p ∧ ¬ x ≤ K := by
  have h := KState.le_word x K hx hK
  have inv : ∀ z : BitVec 1, ~~~z = 1#1 ↔ ¬ z = 1#1 := by decide
  unfold beyondV
  pointwise
  rw [hc, hk, KState.bit_and, inv, KState.bit_and, hb, h]
  tauto

/-! ## The drop -/

theorem pos_eq (l : IVec S8x20000 32) (t : Fin 8) (n : Fin 20000) : posV l (ix2 t n) = 1#1 ↔ l (ix2 t n) = 1#32 := by
  unfold posV
  pointwise
  exact StableHlo.Predicate.cmpi_eq_iff

theorem neg_eq (l : IVec S8x20000 32) (t : Fin 8) (n : Fin 20000) : negV l (ix2 t n) = 1#1 ↔ l (ix2 t n) = 0#32 := by
  unfold negV
  pointwise
  exact StableHlo.Predicate.cmpi_eq_iff

/-- The anchors that the reference drops are those beyond the sample's size. -/
theorem remove_eq (l : IVec S8x20000 32) (t : Fin 8) (f : Fin 20000 → BitVec 32) (hl : ∀ n, l (ix2 t n) = f n) (n : Fin 20000) :
    removeV l (ix2 t n) = 1#1 ↔ Dropped f n := by
  have hp : ∀ n, posV l (ix2 t n) = 1#1 ↔ f n = 1#32 := fun n => by rw [pos_eq, hl]
  have hn : ∀ n, negV l (ix2 t n) = 1#1 ↔ f n = 0#32 := fun n => by rw [neg_eq, hl]
  have small : ∀ p k, cnt p k < 2 ^ 31 := fun p k => lt_of_le_of_lt (cnt_le p k) (by norm_num)
  have kp := keepPos_word _ t _ (small _ _) (count_eq _ t _ hp)
  have le : ∀ T, keepPos T ≤ 128 := fun T => min_le_right _ _
  have kn := keepNeg_word _ _ t _ _ (small _ _) (count_eq _ t _ hn) kp (le _)
  unfold removeV
  show IntOp.ori _ _ = 1#1 ↔ _
  rw [KState.bit_or,
    beyond_word _ _ _ t n _ _ _ (hp n) (cum_eq _ t _ hp n) kp (small _ _) (lt_of_le_of_lt (le _) (by norm_num)),
    beyond_word _ _ _ t n _ _ _ (hn n) (cum_eq _ t _ hn n) kn (small _ _) (lt_of_le_of_lt (min_le_left _ _) (small _ _))]
  rfl

end Cert.RefValue

end
-- ==== Proof.RefTake.lean ====
/- The matched boxes' coordinates in the reference: the gather of a box per anchor, its index in range. -/
module

public import proofs.«01_k».proof.Proof.RefLabel
public import Idealize.ShloMosaic.Lib.ReduceAll

@[expose] public section

set_option maxRecDepth 16384

noncomputable section

namespace Cert.RefValue

open Idealize.ShloMosaic Cert.ReferenceIdeal Cert.ReferenceIdeal.Gen Cert.RefRun

/-- One row per entry, out of the rows of the same batch: the dimension numbers, for any extents. -/
abbrev rowDims (A G N K : ℕ) (wf : GatherDims.WF ⟨3, ![A, G, K]⟩ ⟨3, ![A, N, 1]⟩ ⟨3, ![A, N, K]⟩ [2] [1] [0] [1] [0] 2 ![1, 1, K]) :
    GatherDims ⟨3, ![A, G, K]⟩ ⟨3, ![A, N, 1]⟩ ⟨3, ![A, N, K]⟩ where
  offsetDims := [2]
  collapsedSliceDims := [1]
  operandBatchingDims := [0]
  startIndicesBatchingDims := [0]
  startIndexMap := [1]
  indexVectorDim := 2
  sliceSizes := ![1, 1, K]
  wf := wf

/-- That gather at an entry whose index is row `g`. -/
theorem gather_rows {α : Type} {A G N K : ℕ}
    (wf : GatherDims.WF ⟨3, ![A, G, K]⟩ ⟨3, ![A, N, 1]⟩ ⟨3, ![A, N, K]⟩ [2] [1] [0] [1] [0] 2 ![1, 1, K])
    (x : (⟨3, ![A, G, K]⟩ : Shape).Idx → α) (idx : IVec (⟨3, ![A, N, 1]⟩ : Shape) 32) (t : Fin A) (n : Fin N) (k : Fin K) (g : Fin G)
    (hg : (idx (ix3 t n 0)).toInt = g.val) :
    Host.gather (rowDims A G N K wf) x idx (ix3 t n k) = x (ix3 t g k) := by
  unfold Host.gather
  refine congrArg x (funext fun a => Fin.ext ?_)
  show (rowDims A G N K wf).start (ix3 t n k) idx a + (rowDims A G N K wf).batchCoord (ix3 t n k) a
    + (rowDims A G N K wf).offCoord (ix3 t n k) a = _
  fin_cases a
  · show (rowDims A G N K wf).start (ix3 t n k) idx 0 + (rowDims A G N K wf).batchCoord (ix3 t n k) 0
      + (rowDims A G N K wf).offCoord (ix3 t n k) 0 = t.val
    rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    unfold GatherDims.batchCoord
    rw [dif_pos (List.mem_singleton.mpr rfl)]
    rfl
  · show (rowDims A G N K wf).start (ix3 t n k) idx 1 + (rowDims A G N K wf).batchCoord (ix3 t n k) 1
      + (rowDims A G N K wf).offCoord (ix3 t n k) 1 = g.val
    rw [GatherDims.batchCoord_eq_zero _ _ _ (fun h => by simp at h),
      GatherDims.offCoord_eq_zero _ _ _ (fun h => ((GatherDims.mem_sKept _ _).mp h).1 (List.mem_singleton.mpr rfl)),
      Nat.add_zero]
    unfold GatherDims.start
    rw [dif_pos (show (1 : Fin 3) ∈ (rowDims A G N K wf).startIndexMap from List.mem_singleton.mpr rfl)]
    have hsi : (rowDims A G N K wf).siIdx (ix3 t n k) ⟨List.idxOf (1 : Fin 3) (rowDims A G N K wf).startIndexMap,
        List.idxOf_lt_length_iff.2 (List.mem_singleton.mpr rfl)⟩ = ix3 t n 0 := by
      funext b
      refine Fin.ext ?_
      match b with
      | ⟨0, _⟩ => rfl
      | ⟨1, _⟩ => rfl
      | ⟨2, _⟩ => rfl
    rw [hsi, hg]
    show min ((g.val : ℤ)).toNat (G - 1) = g.val
    have := g.isLt
    omega
  · show (rowDims A G N K wf).start (ix3 t n k) idx 2 + (rowDims A G N K wf).batchCoord (ix3 t n k) 2
      + (rowDims A G N K wf).offCoord (ix3 t n k) 2 = k.val
    rw [GatherDims.batchCoord_eq_zero _ _ _ (fun h => by simp at h)]
    unfold GatherDims.start GatherDims.offCoord
    rw [dif_neg (show (2 : Fin 3) ∉ (rowDims A G N K wf).startIndexMap by simp),
      dif_pos ((GatherDims.mem_sKept _ _).mpr ⟨by simp, by simp⟩), Nat.zero_add]
    rfl

/-- The index wrapped from the end where it is negative. -/
def wrapV (w : IVec S8x20000 32) : IVec S8x20000x1 32 :=
  broadcastInDim S8x20000x1 ![0, 1] bcast_S8x20000_S8x20000x1_0_1
    (select (cmpi .slt w (broadcastInDim S8x20000 ![] bcast_S_S8x20000 (constantI S_ 32 0#32)))
      (addi w (broadcastInDim S8x20000 ![] bcast_S_S8x20000 (constantI S_ 32 32#32))) w)

/-- Whether the wrapped index is in range. -/
def rangeV (i : IVec S8x20000x1 32) : IVec S8x20000x1 1 :=
  andi (cmpi .sge i (broadcastInDim S8x20000x1 ![] bcast_S_S8x20000x1 (constantI S_ 32 0#32)))
    (cmpi .sle i (broadcastInDim S8x20000x1 ![0, 1, 2] bcast_S1x1x1_S8x20000x1_0_1_2
      (broadcastInDim S1x1x1 ![2] bcast_S1_S1x1x1_2 (constantI S1 32 31#32))))

/-- The rows taken where every index is in range. -/
def pickV (x2 : FVec Ideal S8x32x4 .f32) (i : IVec S8x20000x1 32) (ok : IVec S8x20000 1) : FVec Ideal S8x20000x4 .f32 :=
  select (broadcastInDim S8x20000x4 ![0, 1] bcast_S8x20000_S8x20000x4_0_1 ok)
    (Host.gather gather_S8x32x4_S8x20000x1_S8x20000x4_2_1_0_0_1_2_114 x2 i)
    (broadcastInDim S8x20000x4 ![] bcast_S_S8x20000x4 (constant S_ .f32 0x7FC00000#32))

theorem take_parts (x2 : FVec Ideal S8x32x4 .f32) (w : IVec S8x20000 32) :
    takeV x2 w = pickV x2 (wrapV w) (Host.reduce IntOp.andi (rangeV (wrapV w)) (constantI S_ 1 1#1) reducesTo_S8x20000x1_S8x20000_d2 h_S_) := rfl

theorem wrap_eq (w : IVec S8x20000 32) (t : Fin 8) (n : Fin 20000) (g : Fin 32) (h : w (ix2 t n) = BitVec.ofNat 32 g.val) :
    wrapV w (ix3 t n 0) = BitVec.ofNat 32 g.val := by
  have e : ∀ g : Fin 32, IntOp.cmpi .slt (BitVec.ofNat 32 g.val) 0#32 = 0#1 := by decide
  unfold wrapV
  pointwise
  rw [h, e]
  simp [Scalar.select]

theorem range_eq (i : IVec S8x20000x1 32) (t : Fin 8) (n : Fin 20000) (g : Fin 32) (h : i (ix3 t n 0) = BitVec.ofNat 32 g.val) :
    rangeV i (ix3 t n 0) = 1#1 := by
  have e : ∀ g : Fin 32, IntOp.andi (IntOp.cmpi .sge (BitVec.ofNat 32 g.val) 0#32) (IntOp.cmpi .sle (BitVec.ofNat 32 g.val) 31#32) = 1#1 := by
    decide
  unfold rangeV
  pointwise
  rw [h]
  exact e g

theorem ok_eq (b : IVec S8x20000x1 1) (t : Fin 8) (n : Fin 20000) (h : b (ix3 t n 0) = 1#1) :
    Host.reduce IntOp.andi b (constantI S_ 1 1#1) reducesTo_S8x20000x1_S8x20000_d2 h_S_ (ix2 t n) = 1#1 := by
  rw [Reduce.last3, Finset.univ_unique, Finset.fold_singleton]
  show IntOp.andi (b (ix3 t n 0)) 1#1 = 1#1
  rw [h]
  rfl

theorem pick_eq (x2 : FVec Ideal S8x32x4 .f32) (i : IVec S8x20000x1 32) (ok : IVec S8x20000 1) (t : Fin 8) (n : Fin 20000) (k : Fin 4)
    (g : Fin 32) (hi : i (ix3 t n 0) = BitVec.ofNat 32 g.val) (hok : ok (ix2 t n) = 1#1) :
    pickV x2 i ok (ix3 t n k) = x2 (ix3 t g k) := by
  have hg := gather_rows gather_S8x32x4_S8x20000x1_S8x20000x4_2_1_0_0_1_2_114_wf x2 i t n k g (by rw [hi]; exact box_word g)
  rw [← hg]
  unfold pickV
  pointwise
  rw [hok]
  simp only [Scalar.select]
  rfl

/-- The coordinates that the reference takes for an anchor matched to box `g`. -/
theorem take_eq (x2 : FVec Ideal S8x32x4 .f32) (w : IVec S8x20000 32) (t : Fin 8) (n : Fin 20000) (k : Fin 4) (g : Fin 32)
    (h : w (ix2 t n) = BitVec.ofNat 32 g.val) : takeV x2 w (ix3 t n k) = x2 (ix3 t g k) := by
  rw [take_parts]
  have hw := wrap_eq w t n g h
  exact pick_eq x2 _ _ t n k g hw (ok_eq _ t n (range_eq _ t n g hw))

end Cert.RefValue

end
-- ==== Proof.RefOff.lean ====
/- The reference's offsets, from the matched boxes' coordinates. -/
module

public import proofs.«01_k».proof.Proof.Spec
public import proofs.«01_k».proof.Proof.RefRun
public import Idealize.ShloMosaic.Lib.Pointwise

@[expose] public section

set_option maxRecDepth 16384

noncomputable section

namespace Cert.RefValue

open Idealize.ShloMosaic Cert.ReferenceIdeal Cert.ReferenceIdeal.Gen Cert.RefRun

/-- Centre and extents of a box. -/
def centre (a : Fin 4 → EReal) : Fin 4 → EReal :=
  ![(a 0 + a 2) * Ideal.ofBits .f32 0x3F000000#32, (a 1 + a 3) * Ideal.ofBits .f32 0x3F000000#32, a 2 - a 0, a 3 - a 1]

/-- The offsets of one centre and extents from another. -/
def shift (b a : Fin 4 → EReal) : Fin 4 → EReal :=
  ![Ideal.div (b 0 - a 0) (a 2), Ideal.div (b 1 - a 1) (a 3), Ideal.log (Ideal.div (b 2) (a 2)), Ideal.log (Ideal.div (b 3) (a 3))]

theorem off_parts (a b : Fin 4 → EReal) : Spec.off a b = shift (centre b) (centre a) := rfl

variable (t : Fin 8) (n : Fin 20000) (k : Fin 4)

theorem centre_eq (v : FVec Ideal S8x20000x4 .f32) : centreV v (ix3 t n k) = centre (fun k => v (ix3 t n k)) k := by
  unfold centreV
  pointwise
  fin_cases k <;> simp [centre]

theorem anchor_eq (v : FVec Ideal S8x20000x4 .f32) : anchorV v (ix3 t n k) = centre (fun k => v (ix3 t n k)) k := by
  unfold anchorV
  pointwise
  fin_cases k <;> simp [centre]

theorem shift_eq (b a : FVec Ideal S8x20000x4 .f32) :
    offV b a (ix3 t n k) = shift (fun k => b (ix3 t n k)) (fun k => a (ix3 t n k)) k := by
  unfold offV
  pointwise
  fin_cases k <;> simp [shift]

/-- The reference's offsets. -/
theorem offsets_eq (v a : FVec Ideal S8x20000x4 .f32) :
    offV (centreV v) (anchorV a) (ix3 t n k) = Spec.off (fun k => a (ix3 t n k)) (fun k => v (ix3 t n k)) k := by
  rw [off_parts, shift_eq]
  exact congrFun (congrArg₂ shift (funext fun k => centre_eq t n k v) (funext fun k => anchor_eq t n k a)) k

end Cert.RefValue

end
-- ==== Proof.RefValue.lean ====
/- The reference's two results, in the terms of the specification. -/
module

public import proofs.«01_k».proof.Proof.RefIou
public import proofs.«01_k».proof.Proof.RefDrop
public import proofs.«01_k».proof.Proof.RefTake
public import proofs.«01_k».proof.Proof.RefOff

@[expose] public section

set_option maxRecDepth 16384

noncomputable section

namespace Cert.RefValue

open Idealize.ShloMosaic Cert.ReferenceIdeal Cert.ReferenceIdeal.Gen Cert.RefRun

/-- The first result's choice at an anchor, from what the drop says. -/
theorem conf_read (z : IVec S8x20000 1) (l : IVec S8x20000 32) (t : Fin 8) (n : Fin 20000) (p : Prop) [Decidable p]
    (h : z (ix2 t n) = 1#1 ↔ p) : confV z l (ix2 t n) = if p then 4294967295#32 else l (ix2 t n) := by
  unfold confV
  pointwise
  by_cases hp : p
  · rw [if_pos hp, h.mpr hp]
    rfl
  · rw [if_neg hp]
    simp [Scalar.select, h, hp]

/-- The matched box's choice at an anchor, from what the drop says. -/
theorem box_read (z : IVec S8x20000 1) (l : IVec S8x20000 32) (t : Fin 8) (n : Fin 20000) (p : Prop) [Decidable p]
    (h : z (ix2 t n) = 1#1 ↔ p) : boxV z l (ix2 t n) = if p then 0#32 else l (ix2 t n) := by
  unfold boxV
  pointwise
  by_cases hp : p
  · rw [if_pos hp, h.mpr hp]
    rfl
  · rw [if_neg hp]
    simp [Scalar.select, h, hp]

variable (x1 : FVec Ideal S8x20000x4 .f32) (x2 : FVec Ideal S8x32x4 .f32) (t : Fin 8) (n : Fin 20000)

/-- The reference's overlaps in one image. -/
theorem overlaps_eq : (fun n g => iouOf x1 x2 (ix3 t n g)) = Spec.overlaps (anc x1 t) (bx x2 t) :=
  funext fun n => funext fun g => iou_eq x1 x2 t n g

/-- The reference's labels before the drop. -/
theorem labels_eq : RefRun.labelOf (iouOf x1 x2) (ix2 t n) = Spec.label (Spec.overlaps (anc x1 t) (bx x2 t)) n := by
  rw [label_eq, overlaps_eq]

/-- The reference drops the anchors that the specification drops. -/
theorem dropped_eq : removeOf (iouOf x1 x2) (ix2 t n) = 1#1 ↔ Spec.Dropped (Spec.label (Spec.overlaps (anc x1 t) (bx x2 t))) n :=
  remove_eq _ t _ (fun n => labels_eq x1 x2 t n) n

open Classical in
/-- The reference's first result. -/
theorem conf_value : confOf x1 x2 (ix2 t n) = Spec.conf (Spec.overlaps (anc x1 t) (bx x2 t)) n := by
  unfold confOf Spec.conf
  rw [conf_read _ _ t n _ (dropped_eq x1 x2 t n), labels_eq]

open Classical in
/-- The box that the reference matches to an anchor. -/
theorem box_value : boxV (removeOf (iouOf x1 x2)) (argV (iouOf x1 x2)) (ix2 t n)
    = BitVec.ofNat 32 (Spec.box (Spec.overlaps (anc x1 t) (bx x2 t)) n).val := by
  have h := congrFun (overlaps_eq x1 x2 t) n
  unfold Spec.box
  rw [box_read _ _ t n _ (dropped_eq x1 x2 t n), arg_eq, h]
  split <;> simp_all

/-- The reference's second result. -/
theorem off_value (k : Fin 4) : offOf x1 x2 (ix3 t n k)
    = Spec.off (fun k => x1 (ix3 t n k)) (fun k => x2 (ix3 t (Spec.box (Spec.overlaps (anc x1 t) (bx x2 t)) n) k)) k := by
  unfold offOf
  rw [offsets_eq]
  refine congrArg (fun b => Spec.off (fun k => x1 (ix3 t n k)) b k) (funext fun k => ?_)
  unfold takeOf
  exact take_eq x2 _ t n k _ (box_value x1 x2 t n)

end Cert.RefValue

end
-- ==== Proof.Equation.lean ====
/- The reference's results are the kernel's, as functions of the anchors and the boxes. -/
module

public import proofs.«01_k».proof.Proof.KArray
public import proofs.«01_k».proof.Proof.RefValue

@[expose] public section

set_option maxRecDepth 16384

noncomputable section

namespace Cert.Equation

open Idealize.ShloMosaic Cert.ReferenceIdeal

variable (x1 : FVec Ideal S8x20000x4 .f32) (x2 : FVec Ideal S8x32x4 .f32)

/-- The labels of the reference are the kernel's. -/
theorem conf_eq : RefRun.confOf x1 x2 = KArray.confArr x1 x2 := by
  funext i
  refine (congrArg (RefRun.confOf x1 x2) (eq_ix2 i)).trans ?_
  exact RefValue.conf_value x1 x2 (i 0) (i 1)

/-- The offsets of the reference are the kernel's. -/
theorem off_eq : RefRun.offOf x1 x2 = KArray.offArr x1 x2 := by
  funext i
  refine (congrArg (RefRun.offOf x1 x2) (eq_ix3 i)).trans ?_
  exact RefValue.off_value x1 x2 (i 0) (i 1) (i 2)

end Cert.Equation

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Equation
public import Idealize.ShloMosaic.Lib.Quiescent

@[expose] public section

set_option maxRecDepth 16384

noncomputable section

namespace Cert.Proof

open Idealize.ShloMosaic Idealize.ShloMosaic.TcCoe Idealize.ShloMosaic.StableHlo Idealize.SL.Sem

/-- The reference runs to the end and leaves its arguments unchanged, every semaphore at zero. -/
theorem frame_reference : Cert.quiescent_ReferenceIdeal (hReferenceIdeal := Cert.ReferenceIdeal.Gen.facts) := fun m ρ _ =>
  (θ_run Cert.ReferenceIdeal.defs _ _).mono
    (fun r h => ⟨fun c => ⟨(h c Cert.ReferenceIdeal.main_arg0).trans (RefRun.arg0_eq _),
        (h c Cert.ReferenceIdeal.main_arg1).trans (RefRun.arg1_eq _),
        (h c Cert.ReferenceIdeal.main_arg2).trans (RefRun.arg2_eq _),
        (h c Cert.ReferenceIdeal.main_arg3).trans (RefRun.arg3_eq _)⟩,
      Idealize.ShloMosaic.sem_eq_zero_of_no_sems (by decide) r.2⟩)
    (RefRun.run_main (F := Ideal) m ρ)

/-- From the same arguments the kernel and the reference end with the same labels and the same offsets. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => KArray.confArr (KArray.anchors m c) (KArray.boxes m c),
    fun c => KArray.offArr (KArray.anchors m c) (KArray.boxes m c), KArray.run m ρ, ?_⟩
  refine (θ_run Cert.ReferenceIdeal.defs _ _).mono (fun _ h c => ?_) (RefRun.run_main (F := Ideal) m' ρ')
  have h1 : launchContents m' c (Cert.ReferenceIdeal.main_arg1 : DevRef _ _) = KArray.anchors m c := (hagree c).2.1
  have h2 : launchContents m' c (Cert.ReferenceIdeal.main_arg2 : DevRef _ _) = KArray.boxes m c := (hagree c).2.2.1
  refine ⟨(h c Cert.ReferenceIdeal.main_v102).trans ((RefRun.conf_eq _).trans ?_),
    (h c Cert.ReferenceIdeal.main_v195).trans ((RefRun.off_eq _).trans ?_),
    (h c Cert.ReferenceIdeal.main_arg0).trans (RefRun.arg0_eq _),
    (h c Cert.ReferenceIdeal.main_arg1).trans (RefRun.arg1_eq _),
    (h c Cert.ReferenceIdeal.main_arg2).trans (RefRun.arg2_eq _),
    (h c Cert.ReferenceIdeal.main_arg3).trans (RefRun.arg3_eq _)⟩
  · rw [h1, h2]
    exact Equation.conf_eq _ _
  · rw [h1, h2]
    exact Equation.off_eq _ _

/-- The kernel, its idealization and the reference run to the end and leave their arguments unchanged, every semaphore at
zero; the idealization preserves the kernel; over the reals the kernel's two results are the reference's. -/
theorem claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    frame_reference,
    trivial,
    algebraic⟩

end Cert.Proof

end
